-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_dh" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 2, 128]⟩ ⟨4, ![1, 16384, 2, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 2, 128]⟩ ⟨4, ![1, 16384, 2, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x2x128 : Shape := ⟨4, ![1, 4096, 2, 128]⟩
abbrev S2048x130 : Shape := ⟨2, ![2048, 130]⟩
abbrev S4x2048x130 : Shape := ⟨3, ![4, 2048, 130]⟩
abbrev S2x3 : Shape := ⟨2, ![2, 3]⟩
abbrev S2x4 : Shape := ⟨2, ![2, 4]⟩
abbrev S2 : Shape := ⟨1, ![2]⟩
abbrev S_ : Shape := ⟨0, ![]⟩
abbrev S256x1024 : Shape := ⟨2, ![256, 1024]⟩
abbrev S256x512 : Shape := ⟨2, ![256, 512]⟩
abbrev S256x4x128 : Shape := ⟨3, ![256, 4, 128]⟩
abbrev S4x256x128 : Shape := ⟨3, ![4, 256, 128]⟩
abbrev S1024x128 : Shape := ⟨2, ![1024, 128]⟩
abbrev S1x4096x1x128 : Shape := ⟨4, ![1, 4096, 1, 128]⟩
abbrev S4096x128 : Shape := ⟨2, ![4096, 128]⟩
abbrev S1024x4096 : Shape := ⟨2, ![1024, 4096]⟩
abbrev S1024 : Shape := ⟨1, ![1024]⟩
abbrev S1024x1 : Shape := ⟨2, ![1024, 1]⟩
abbrev S1 : Shape := ⟨1, ![1]⟩
abbrev S1x1024x130 : Shape := ⟨3, ![1, 1024, 130]⟩
abbrev S1024x130 : Shape := ⟨2, ![1024, 130]⟩
abbrev S1x1 : Shape := ⟨2, ![1, 1]⟩
abbrev S1x1024x1 : Shape := ⟨3, ![1, 1024, 1]⟩
abbrev S1x1024x128 : Shape := ⟨3, ![1, 1024, 128]⟩
abbrev S256x128 : Shape := ⟨2, ![256, 128]⟩
abbrev S128x1024 : Shape := ⟨2, ![128, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x2x128, .f32⟩
  | .hbm, ⟨3, _⟩ => ⟨S1x4096x2x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x4096x2x128, .f32⟩
  | .local _ .vmem, ⟨4, _⟩ => ⟨S1x4096x2x128, .f32⟩
  | .local _ .vmem, ⟨5, _⟩ => ⟨S1x256x1024, .f32⟩
  | .local _ .vmem, ⟨6, _⟩ => ⟨S2048x130, .f32⟩
  | .local _ .vmem, ⟨7, _⟩ => ⟨S4x2048x130, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_50 : BitVec 32 := 0#32
  let c0_i32_51 : BitVec 32 := 0#32
  ![v2.toNat, 0, 0]
def k0_off2 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v81 : BitVec 32 := Scalar.addi v2 c1_i32_54
  let c4_i32_55 : BitVec 32 := 4#32
  let c0_i32_56 : BitVec 32 := 0#32
  let v82 : BitVec 1 := Scalar.cmpi .eq c4_i32_55 c0_i32_56
  let c1_i32_57 : BitVec 32 := 1#32
  let v83 : BitVec 32 := Scalar.select v82 c1_i32_57 c4_i32_55
  let v84 : BitVec 32 := Scalar.remsi v81 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c1_i32_64 : BitVec 32 := 1#32
  let v92 : BitVec 32 := Scalar.muli v91 c1_i32_64
  let v93 : BitVec 32 := Scalar.addi c0_i32_65 v92
  v93.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_70 : BitVec 32 := 2#32
  let v101 : BitVec 32 := Scalar.addi v2 c2_i32_70
  let c4_i32_71 : BitVec 32 := 4#32
  let c0_i32_72 : BitVec 32 := 0#32
  let v102 : BitVec 1 := Scalar.cmpi .eq c4_i32_71 c0_i32_72
  let c1_i32_73 : BitVec 32 := 1#32
  let v103 : BitVec 32 := Scalar.select v102 c1_i32_73 c4_i32_71
  let v104 : BitVec 32 := Scalar.remsi v101 v103
  let c0_i32_75 : BitVec 32 := 0#32
  let v106 : BitVec 1 := Scalar.cmpi .slt v104 c0_i32_75
  let c0_i32_76 : BitVec 32 := 0#32
  let v107 : BitVec 1 := Scalar.cmpi .slt v103 c0_i32_76
  let v108 : BitVec 1 := Scalar.xori v106 v107
  let c0_i32_74 : BitVec 32 := 0#32
  let v105 : BitVec 1 := Scalar.cmpi .ne v104 c0_i32_74
  let v109 : BitVec 1 := Scalar.andi v108 v105
  let v110 : BitVec 32 := Scalar.addi v104 v103
  let v111 : BitVec 32 := Scalar.select v109 v110 v104
  let c1_i32_80 : BitVec 32 := 1#32
  let v112 : BitVec 32 := Scalar.muli v111 c1_i32_80
  let v113 : BitVec 32 := Scalar.addi c0_i32_81 v112
  v113.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_86 : BitVec 32 := 3#32
  let v121 : BitVec 32 := Scalar.addi v2 c3_i32_86
  let c4_i32_87 : BitVec 32 := 4#32
  let c0_i32_88 : BitVec 32 := 0#32
  let v122 : BitVec 1 := Scalar.cmpi .eq c4_i32_87 c0_i32_88
  let c1_i32_89 : BitVec 32 := 1#32
  let v123 : BitVec 32 := Scalar.select v122 c1_i32_89 c4_i32_87
  let v124 : BitVec 32 := Scalar.remsi v121 v123
  let c0_i32_91 : BitVec 32 := 0#32
  let v126 : BitVec 1 := Scalar.cmpi .slt v124 c0_i32_91
  let c0_i32_92 : BitVec 32 := 0#32
  let v127 : BitVec 1 := Scalar.cmpi .slt v123 c0_i32_92
  let v128 : BitVec 1 := Scalar.xori v126 v127
  let c0_i32_90 : BitVec 32 := 0#32
  let v125 : BitVec 1 := Scalar.cmpi .ne v124 c0_i32_90
  let v129 : BitVec 1 := Scalar.andi v128 v125
  let v130 : BitVec 32 := Scalar.addi v124 v123
  let v131 : BitVec 32 := Scalar.select v129 v130 v124
  let c1_i32_96 : BitVec 32 := 1#32
  let v132 : BitVec 32 := Scalar.muli v131 c1_i32_96
  let v133 : BitVec 32 := Scalar.addi c0_i32_97 v132
  v133.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let c0_i32_120 : BitVec 32 := 0#32
  ![v2.toNat, 1024, 0]
def k0_off4 (d0 : Dev nD) : Fin 2 → Nat :=
  let c1_i32_130 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_123 : BitVec 32 := 1#32
  let v174 : BitVec 32 := Scalar.addi v2 c1_i32_123
  let c4_i32_124 : BitVec 32 := 4#32
  let c0_i32_125 : BitVec 32 := 0#32
  let v175 : BitVec 1 := Scalar.cmpi .eq c4_i32_124 c0_i32_125
  let c1_i32_126 : BitVec 32 := 1#32
  let v176 : BitVec 32 := Scalar.select v175 c1_i32_126 c4_i32_124
  let v177 : BitVec 32 := Scalar.remsi v174 v176
  let c0_i32_128 : BitVec 32 := 0#32
  let v179 : BitVec 1 := Scalar.cmpi .slt v177 c0_i32_128
  let c0_i32_129 : BitVec 32 := 0#32
  let v180 : BitVec 1 := Scalar.cmpi .slt v176 c0_i32_129
  let v181 : BitVec 1 := Scalar.xori v179 v180
  let c0_i32_127 : BitVec 32 := 0#32
  let v178 : BitVec 1 := Scalar.cmpi .ne v177 c0_i32_127
  let v182 : BitVec 1 := Scalar.andi v181 v178
  let v183 : BitVec 32 := Scalar.addi v177 v176
  let v184 : BitVec 32 := Scalar.select v182 v183 v177
  let c1_i32_133 : BitVec 32 := 1#32
  let v185 : BitVec 32 := Scalar.muli v184 c1_i32_133
  let v186 : BitVec 32 := Scalar.addi c0_i32_134 v185
  v186.toNat
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_139 : BitVec 32 := 2#32
  let v194 : BitVec 32 := Scalar.addi v2 c2_i32_139
  let c4_i32_140 : BitVec 32 := 4#32
  let c0_i32_141 : BitVec 32 := 0#32
  let v195 : BitVec 1 := Scalar.cmpi .eq c4_i32_140 c0_i32_141
  let c1_i32_142 : BitVec 32 := 1#32
  let v196 : BitVec 32 := Scalar.select v195 c1_i32_142 c4_i32_140
  let v197 : BitVec 32 := Scalar.remsi v194 v196
  let c0_i32_144 : BitVec 32 := 0#32
  let v199 : BitVec 1 := Scalar.cmpi .slt v197 c0_i32_144
  let c0_i32_145 : BitVec 32 := 0#32
  let v200 : BitVec 1 := Scalar.cmpi .slt v196 c0_i32_145
  let v201 : BitVec 1 := Scalar.xori v199 v200
  let c0_i32_143 : BitVec 32 := 0#32
  let v198 : BitVec 1 := Scalar.cmpi .ne v197 c0_i32_143
  let v202 : BitVec 1 := Scalar.andi v201 v198
  let v203 : BitVec 32 := Scalar.addi v197 v196
  let v204 : BitVec 32 := Scalar.select v202 v203 v197
  let c1_i32_149 : BitVec 32 := 1#32
  let v205 : BitVec 32 := Scalar.muli v204 c1_i32_149
  let v206 : BitVec 32 := Scalar.addi c0_i32_150 v205
  v206.toNat
def k0_dev9 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_155 : BitVec 32 := 3#32
  let v214 : BitVec 32 := Scalar.addi v2 c3_i32_155
  let c4_i32_156 : BitVec 32 := 4#32
  let c0_i32_157 : BitVec 32 := 0#32
  let v215 : BitVec 1 := Scalar.cmpi .eq c4_i32_156 c0_i32_157
  let c1_i32_158 : BitVec 32 := 1#32
  let v216 : BitVec 32 := Scalar.select v215 c1_i32_158 c4_i32_156
  let v217 : BitVec 32 := Scalar.remsi v214 v216
  let c0_i32_160 : BitVec 32 := 0#32
  let v219 : BitVec 1 := Scalar.cmpi .slt v217 c0_i32_160
  let c0_i32_161 : BitVec 32 := 0#32
  let v220 : BitVec 1 := Scalar.cmpi .slt v216 c0_i32_161
  let v221 : BitVec 1 := Scalar.xori v219 v220
  let c0_i32_159 : BitVec 32 := 0#32
  let v218 : BitVec 1 := Scalar.cmpi .ne v217 c0_i32_159
  let v222 : BitVec 1 := Scalar.andi v221 v218
  let v223 : BitVec 32 := Scalar.addi v217 v216
  let v224 : BitVec 32 := Scalar.select v222 v223 v217
  let c1_i32_165 : BitVec 32 := 1#32
  let v225 : BitVec 32 := Scalar.muli v224 c1_i32_165
  let v226 : BitVec 32 := Scalar.addi c0_i32_166 v225
  v226.toNat
def k0_off5 (d0 : Dev nD) (c1_i32_177 : BitVec 32) : Fin 2 → Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v240 : BitVec 32 := Scalar.addi v2 c1_i32_177
  let c4_i32_178 : BitVec 32 := 4#32
  let c0_i32_179 : BitVec 32 := 0#32
  let v241 : BitVec 1 := Scalar.cmpi .eq c4_i32_178 c0_i32_179
  let c1_i32_180 : BitVec 32 := 1#32
  let v242 : BitVec 32 := Scalar.select v241 c1_i32_180 c4_i32_178
  let v243 : BitVec 32 := Scalar.remsi v240 v242
  let c0_i32_182 : BitVec 32 := 0#32
  let v245 : BitVec 1 := Scalar.cmpi .slt v243 c0_i32_182
  let c0_i32_183 : BitVec 32 := 0#32
  let v246 : BitVec 1 := Scalar.cmpi .slt v242 c0_i32_183
  let v247 : BitVec 1 := Scalar.xori v245 v246
  let c0_i32_181 : BitVec 32 := 0#32
  let v244 : BitVec 1 := Scalar.cmpi .ne v243 c0_i32_181
  let v248 : BitVec 1 := Scalar.andi v247 v244
  let v249 : BitVec 32 := Scalar.addi v243 v242
  let v250 : BitVec 32 := Scalar.select v248 v249 v243
  ![0, v250.toNat]
def k0_off6 (d0 : Dev nD) (c1_i32_177 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v240 : BitVec 32 := Scalar.addi v2 c1_i32_177
  let c4_i32_178 : BitVec 32 := 4#32
  let c0_i32_179 : BitVec 32 := 0#32
  let v241 : BitVec 1 := Scalar.cmpi .eq c4_i32_178 c0_i32_179
  let c1_i32_180 : BitVec 32 := 1#32
  let v242 : BitVec 32 := Scalar.select v241 c1_i32_180 c4_i32_178
  let v243 : BitVec 32 := Scalar.remsi v240 v242
  let c0_i32_182 : BitVec 32 := 0#32
  let v245 : BitVec 1 := Scalar.cmpi .slt v243 c0_i32_182
  let c0_i32_183 : BitVec 32 := 0#32
  let v246 : BitVec 1 := Scalar.cmpi .slt v242 c0_i32_183
  let v247 : BitVec 1 := Scalar.xori v245 v246
  let c0_i32_181 : BitVec 32 := 0#32
  let v244 : BitVec 1 := Scalar.cmpi .ne v243 c0_i32_181
  let v248 : BitVec 1 := Scalar.andi v247 v244
  let v249 : BitVec 32 := Scalar.addi v243 v242
  let v250 : BitVec 32 := Scalar.select v248 v249 v243
  let c0_i32_189 : BitVec 32 := 0#32
  let c0_i32_190 : BitVec 32 := 0#32
  ![v250.toNat, 0, 0]
def k0_off7 (d0 : Dev nD) (c1_i32_276 : BitVec 32) : Fin 2 → Nat :=
  let c1_i32_283 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v378 : BitVec 32 := Scalar.addi v2 c1_i32_276
  let c4_i32_277 : BitVec 32 := 4#32
  let c0_i32_278 : BitVec 32 := 0#32
  let v379 : BitVec 1 := Scalar.cmpi .eq c4_i32_277 c0_i32_278
  let c1_i32_279 : BitVec 32 := 1#32
  let v380 : BitVec 32 := Scalar.select v379 c1_i32_279 c4_i32_277
  let v381 : BitVec 32 := Scalar.remsi v378 v380
  let c0_i32_281 : BitVec 32 := 0#32
  let v383 : BitVec 1 := Scalar.cmpi .slt v381 c0_i32_281
  let c0_i32_282 : BitVec 32 := 0#32
  let v384 : BitVec 1 := Scalar.cmpi .slt v380 c0_i32_282
  let v385 : BitVec 1 := Scalar.xori v383 v384
  let c0_i32_280 : BitVec 32 := 0#32
  let v382 : BitVec 1 := Scalar.cmpi .ne v381 c0_i32_280
  let v386 : BitVec 1 := Scalar.andi v385 v382
  let v387 : BitVec 32 := Scalar.addi v381 v380
  let v388 : BitVec 32 := Scalar.select v386 v387 v381
  ![1, v388.toNat]
def k0_off8 (d0 : Dev nD) (c1_i32_276 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v378 : BitVec 32 := Scalar.addi v2 c1_i32_276
  let c4_i32_277 : BitVec 32 := 4#32
  let c0_i32_278 : BitVec 32 := 0#32
  let v379 : BitVec 1 := Scalar.cmpi .eq c4_i32_277 c0_i32_278
  let c1_i32_279 : BitVec 32 := 1#32
  let v380 : BitVec 32 := Scalar.select v379 c1_i32_279 c4_i32_277
  let v381 : BitVec 32 := Scalar.remsi v378 v380
  let c0_i32_281 : BitVec 32 := 0#32
  let v383 : BitVec 1 := Scalar.cmpi .slt v381 c0_i32_281
  let c0_i32_282 : BitVec 32 := 0#32
  let v384 : BitVec 1 := Scalar.cmpi .slt v380 c0_i32_282
  let v385 : BitVec 1 := Scalar.xori v383 v384
  let c0_i32_280 : BitVec 32 := 0#32
  let v382 : BitVec 1 := Scalar.cmpi .ne v381 c0_i32_280
  let v386 : BitVec 1 := Scalar.andi v385 v382
  let v387 : BitVec 32 := Scalar.addi v381 v380
  let v388 : BitVec 32 := Scalar.select v386 v387 v381
  let c1024_i32_288 : BitVec 32 := 1024#32
  let c0_i32_289 : BitVec 32 := 0#32
  ![v388.toNat, 1024, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_sqrt_dh" => some (((Real.sqrt 128)⁻¹ : ℝ) : EReal)
  | _ => none
-- ==== ReferenceIdeal.lean ====
abbrev S1x256x1024 : Shape := ⟨3, ![1, 256, 1024]⟩
abbrev S1024x1024 : Shape := ⟨2, ![1024, 1024]⟩
abbrev S1x16384x2x128 : Shape := ⟨4, ![1, 16384, 2, 128]⟩
abbrev S1x256x8x128 : Shape := ⟨4, ![1, 256, 8, 128]⟩
abbrev S1x16384x2x4x128 : Shape := ⟨5, ![1, 16384, 2, 4, 128]⟩
abbrev S1x16384x8x128 : Shape := ⟨4, ![1, 16384, 8, 128]⟩
abbrev S1x8x256x16384 : Shape := ⟨4, ![1, 8, 256, 16384]⟩
abbrev S_ : Shape := ⟨0, ![]⟩
abbrev S1x8x256 : Shape := ⟨3, ![1, 8, 256]⟩
abbrev S1x8x256x1 : Shape := ⟨4, ![1, 8, 256, 1]⟩
abbrev S1x8x128x256 : Shape := ⟨4, ![1, 8, 128, 256]⟩
abbrev S1x256x8x1 : Shape := ⟨4, ![1, 256, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x16384x2x128, .f32⟩
  | .hbm, ⟨3, _⟩ => ⟨S1x16384x2x128, .f32⟩
  | .hbm, ⟨4, _⟩ => ⟨S1024x1024, .f32⟩
  | .hbm, ⟨5, _⟩ => ⟨S1x256x1024, .f32⟩
  | .hbm, ⟨6, _⟩ => ⟨S1x256x8x128, .f32⟩
  | .hbm, ⟨7, _⟩ => ⟨S1x16384x2x4x128, .f32⟩
  | .hbm, ⟨8, _⟩ => ⟨S1x16384x8x128, .f32⟩
  | .hbm, ⟨9, _⟩ => ⟨S1x16384x2x4x128, .f32⟩
  | .hbm, ⟨10, _⟩ => ⟨S1x16384x8x128, .f32⟩
  | .hbm, ⟨11, _⟩ => ⟨S1x8x256x16384, .f32⟩
  | .hbm, ⟨12, _⟩ => ⟨S_, .f32⟩
  | .hbm, ⟨13, _⟩ => ⟨S_, .f32⟩
  | .hbm, ⟨14, _⟩ => ⟨S1x8x256x16384, .f32⟩
  | .hbm, ⟨15, _⟩ => ⟨S1x8x256x16384, .f32⟩
  | .hbm, ⟨16, _⟩ => ⟨S_, .f32⟩
  | .hbm, ⟨17, _⟩ => ⟨S1x8x256, .f32⟩
  | .hbm, ⟨18, _⟩ => ⟨S1x8x256x1, .f32⟩
  | .hbm, ⟨19, _⟩ => ⟨S1x8x256x16384, .f32⟩
  | .hbm, ⟨20, _⟩ => ⟨S1x8x256x16384, .f32⟩
  | .hbm, ⟨21, _⟩ => ⟨S1x8x256x16384, .f32⟩
  | .hbm, ⟨22, _⟩ => ⟨S_, .f32⟩
  | .hbm, ⟨23, _⟩ => ⟨S1x8x256, .f32⟩
  | .hbm, ⟨24, _⟩ => ⟨S1x8x256x1, .f32⟩
  | .hbm, ⟨25, _⟩ => ⟨S1x8x128x256, .f32⟩
  | .hbm, ⟨26, _⟩ => ⟨S1x256x8x128, .f32⟩
  | .hbm, ⟨27, _⟩ => ⟨S1x256x8x1, .f32⟩
  | .hbm, ⟨28, _⟩ => ⟨S1x256x8x128, .f32⟩
  | .hbm, ⟨29, _⟩ => ⟨S1x256x8x128, .f32⟩
  | .hbm, ⟨30, _⟩ => ⟨S1x256x1024, .f32⟩
  | .hbm, ⟨31, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.KernelIdealComm.lean ====
/-
The exchange of softmax partials, as a schedule of rounds.

Every device computes, for each of the two head groups, a packet of 1024 rows: per row the unnormalised attention
output (128 columns), the row maximum and the row sum over its own keys. It copies the packet into slot `c` of its own
receive buffer and sends it into slot `c` of the receive buffer of the three other devices; so in the end slot `s` of
every device's receive buffer holds device `s`'s packets.

Cells, per device `c` (one round each, round 0):
* the barrier cell: three duties of one unit; duty `k` is paid by the device whose `k`-th peer is `c`, and hands over
  that device's receive slot `c`, both groups;
* `recv g s` for `s ≠ c`: one duty, paid by device `s`'s transfer: slot `s`, group `g`, holding device `s`'s packet;
* `send g k`: one duty, paid by the completion of the `k`-th transfer of group `g`: the share of the packet rows it read;
* `copy g`: one duty, paid by the local copy: slot `c`, group `g`, and the share of the packet rows it read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.ValueLayout
public import Idealize.ShloMosaic.Lib.Pipeline.ValueKit.Geometry

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-! ## The resource algebra -/

/-- The exchange's copy of the rounds algebra: three duty names. -/
abbrev UB : Type := URounds (GSem nD τ sig) (Fin 3)
/-- The pipeline's copy beside it. -/
abbrev UU : Type := UR sig nD τ × UB

local notation "𝕄" => MT nD τ sig Unit (Elt F) ℕ UU ℕ

/-- The pipeline's embedding. -/
abbrev EP : Emb (UR sig nD τ) (MT nD τ sig Unit (Elt F) ℕ UU ℕ) := embL
/-- The exchange's embedding. -/
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The devices: a device's three peers -/

set_option backward.proofsInPublic true in
/-- The `k`-th peer of device `c`: `k + 1` places further on. -/
def peer (k : Fin 3) (c : Dev nD) : Dev nD := ⟨(c.val + k.val + 1) % 4, Nat.mod_lt _ (by decide)⟩

/-- Going to the `k`-th peer and then to the `k.rev`-th comes back. -/
theorem peer_rev_peer (k : Fin 3) (c : Dev nD) : peer k.rev (peer k c) = c := by revert k c; decide
/-- The same in the other order. -/
theorem peer_peer_rev (k : Fin 3) (c : Dev nD) : peer k (peer k.rev c) = c := by revert k c; decide
/-- A peer is another device. -/
theorem peer_ne (k : Fin 3) (c : Dev nD) : peer k c ≠ c := by revert k c; decide
/-- Different peers are different devices. -/
theorem peer_inj (k k' : Fin 3) (c : Dev nD) (h : peer k c = peer k' c) : k = k' := by revert k k' c; decide

/-- Taking the `k`-th peer permutes the devices. -/
def peerEquiv (k : Fin 3) : Dev nD ≃ Dev nD := ⟨peer k, peer k.rev, peer_rev_peer k, peer_peer_rev k⟩

/-- The devices the nine addressed operations name. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 2 c := by revert c; decide +kernel

/-! ## Buffers, semaphores, cells -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S1x4096x2x128 .f32 := Memref.whole cc0_stg3_0
abbrev vM : Memref sig .tc .vmem S1x4096x2x128 .f32 := Memref.whole cc0_stg4_0
abbrev oM : Memref sig .tc .vmem S1x256x1024 .f32 := Memref.whole cc0_stg5_0
abbrev pM : Memref sig .tc .vmem S2048x130 .f32 := Memref.whole cc0_scratch0
abbrev rM : Memref sig .tc .vmem S4x2048x130 .f32 := Memref.whole cc0_scratch1

/-- The 1024 rows of the packet buffer at `off`. -/
abbrev rowsM (off : Fin 2 → Nat) (inb : ∀ a, off a + S1024x130.size a ≤ S2048x130.size a) : Memref sig .tc .vmem S1024x130 .f32 :=
  pM.slice (Rect.unit (s := S2048x130) off S1024x130.size inb) (fun _ => rfl)
/-- The 1024 rows of one slot of the receive buffer at `off`. -/
abbrev slotM (off : Fin 3 → Nat) (inb : ∀ a, off a + S1x1024x130.size a ≤ S4x2048x130.size a) : Memref sig .tc .vmem S1024x130 .f32 :=
  (rM.slice (Rect.unit (s := S4x2048x130) off S1x1024x130.size inb) (fun _ => rfl)).squeeze S1024x130 squeezes_S1x1024x130_S1024x130

/-- One send semaphore. -/
abbrev sndS (off : Fin 2 → Nat) (inb : ∀ a, off a + S1x1.size a ≤ S2x3.size a) : DmaSem sig :=
  ((cc0_scratch2.slice (Rect.unit (s := S2x3) off S1x1.size inb)).squeeze S_ squeezes_S1x1_S_).sem
/-- One receive semaphore. -/
abbrev rcvS (off : Fin 2 → Nat) (inb : ∀ a, off a + S1x1.size a ≤ S2x4.size a) : DmaSem sig :=
  ((cc0_scratch3.slice (Rect.unit (s := S2x4) off S1x1.size inb)).squeeze S_ squeezes_S1x1_S_).sem
/-- One local-copy semaphore. -/
abbrev cpyS (off : Fin 1 → Nat) (inb : ∀ a, off a + S1.size a ≤ S2.size a) : DmaSem sig :=
  ((cc0_scratch4.slice (Rect.unit (s := S2) off S1.size inb)).squeeze S_ squeezes_S1_S_).sem
/-- The barrier semaphore. -/
abbrev barS : Sem sig := (SemArray.scalar (sig.barrier 0 rfl) : Sems sig S_).sem

/-- A send semaphore's place is in its array. -/
theorem snd_inb (g : Fin 2) (k : Fin 3) : ∀ a, (![g.val, k.val] : Fin 2 → Nat) a + S1x1.size a ≤ S2x3.size a := by revert g k; decide
/-- A receive semaphore's place is in its array. -/
theorem rcv_inb (g : Fin 2) (s : Dev nD) : ∀ a, (![g.val, s.val] : Fin 2 → Nat) a + S1x1.size a ≤ S2x4.size a := by revert g s; decide
/-- A local copy's semaphore's place is in its array. -/
theorem cpy_inb (g : Fin 2) : ∀ a, (![g.val] : Fin 1 → Nat) a + S1.size a ≤ S2.size a := by revert g; decide
/-- A group's rows are in the packet. -/
theorem rows_inb (g : Fin 2) : ∀ a, (![1024 * g.val, 0] : Fin 2 → Nat) a + S1024x130.size a ≤ S2048x130.size a := by revert g; decide
/-- A device's slot of a group is in the receive buffer. -/
theorem slot_inb (s : Dev nD) (g : Fin 2) : ∀ a, (![s.val, 1024 * g.val, 0] : Fin 3 → Nat) a + S1x1024x130.size a ≤ S4x2048x130.size a := by
  revert s g; decide

/-- A device's cells: the barrier, the send, the receive and the local-copy semaphores. -/
abbrev CK : Type := Unit ⊕ (Fin 2 × Fin 3) ⊕ (Fin 2 × Dev nD) ⊕ Fin 2
/-- The barrier's cell. -/
abbrev kbar : CK := .inl ()
/-- The cell of group `g`'s send to the `k`-th peer. -/
abbrev ksnd (g : Fin 2) (k : Fin 3) : CK := .inr (.inl (g, k))
/-- The cell on which device `s`'s packet of group `g` lands. -/
abbrev krcv (g : Fin 2) (s : Dev nD) : CK := .inr (.inr (.inl (g, s)))
/-- The cell of group `g`'s local copy. -/
abbrev kcpy (g : Fin 2) : CK := .inr (.inr (.inr g))

/-- The semaphore of a cell. -/
def csem : CK → SemLoc sig
  | .inl _ => .reg barS
  | .inr (.inl (g, k)) => .dma (sndS ![g.val, k.val] (snd_inb g k))
  | .inr (.inr (.inl (g, s))) => .dma (rcvS ![g.val, s.val] (rcv_inb g s))
  | .inr (.inr (.inr g)) => .dma (cpyS ![g.val] (cpy_inb g))

/-- Different cells have different semaphores. -/
theorem csem_inj : Function.Injective csem := by
  have h : ∀ a b : CK, csem a = csem b → a = b := by decide +kernel
  exact fun a b => h a b

/-- A cell of device `c`. -/
abbrev cell (c : Dev nD) (k : CK) : GSem nD τ sig := ((c : Thread nD τ), csem k)

open Classical in
/-- The cell a semaphore is, if it is one of the exchange's. -/
def kindOf (sl : SemLoc sig) : Option CK := if h : ∃ k, csem k = sl then some h.choose else none

/-- A cell's kind is read back from its semaphore. -/
theorem kindOf_csem (k : CK) : kindOf (csem k) = some k := by
  have h : ∃ k', csem k' = csem k := ⟨k, rfl⟩
  unfold kindOf
  rw [dif_pos h]
  exact congrArg some (csem_inj h.choose_spec)

/-! ## Contents -/

def xV (c : Dev nD) : (cc0_stg0_0 : Ref sig .tc).ty.Contents (Elt F) :=
  (win0_0.blk (0 : Fin 1)).view.read (Elt F) ((s₀ m ρ).mem ((c : Thread nD τ).loc main_arg0))
/-- The block of the query projection. -/
def wqV (c : Dev nD) : (cc0_stg1_0 : Ref sig .tc).ty.Contents (Elt F) :=
  (win0_1.blk (0 : Fin 1)).view.read (Elt F) ((s₀ m ρ).mem ((c : Thread nD τ).loc main_arg1))
/-- The block of the output projection. -/
def woV (c : Dev nD) : (cc0_stg2_0 : Ref sig .tc).ty.Contents (Elt F) :=
  (win0_2.blk (0 : Fin 1)).view.read (Elt F) ((s₀ m ρ).mem ((c : Thread nD τ).loc main_arg4))
/-- The block of the keys. -/
def kV (c : Dev nD) : (cc0_stg3_0 : Ref sig .tc).ty.Contents (Elt F) :=
  (win0_3.blk (0 : Fin 1)).view.read (Elt F) ((s₀ m ρ).mem ((c : Thread nD τ).loc main_arg2))
/-- The block of the values. -/
def vV (c : Dev nD) : (cc0_stg4_0 : Ref sig .tc).ty.Contents (Elt F) :=
  (win0_4.blk (0 : Fin 1)).view.read (Elt F) ((s₀ m ρ).mem ((c : Thread nD τ).loc main_arg3))

/-- What the body loads of its inputs. -/
def ldX (c : Dev nD) : Vec F S1x256x1024 .f32 := xM.view.readAt (Elt F) (Rect.unit (s := S1x256x1024) ![0, 0, 0] S1x256x1024.size inb_S1x256x1024_S1x256x1024_0_0_0).toLoadRect (xV m ρ c)
/-- The load of the query projection. -/
def ldWq (c : Dev nD) : Vec F S1024x1024 .f32 := wqM.view.readAt (Elt F) (Rect.unit (s := S1024x1024) ![0, 0] S1024x1024.size inb_S1024x1024_S1024x1024_0_0).toLoadRect (wqV m ρ c)
/-- The load of group 0's keys. -/
def ldK0 (c : Dev nD) : Vec F S1x4096x1x128 .f32 := kM.view.readAt (Elt F) (Rect.unit (s := S1x4096x2x128) ![0, 0, 0, 0] S1x4096x1x128.size inb_S1x4096x2x128_S1x4096x1x128_0_0_0_0).toLoadRect (kV m ρ c)
/-- The load of group 0's values. -/
def ldV0 (c : Dev nD) : Vec F S1x4096x1x128 .f32 := vM.view.readAt (Elt F) (Rect.unit (s := S1x4096x2x128) ![0, 0, 0, 0] S1x4096x1x128.size inb_S1x4096x2x128_S1x4096x1x128_0_0_0_0).toLoadRect (vV m ρ c)
/-- The load of group 1's keys. -/
def ldK1 (c : Dev nD) : Vec F S1x4096x1x128 .f32 := kM.view.readAt (Elt F) (Rect.unit (s := S1x4096x2x128) ![0, 0, 1, 0] S1x4096x1x128.size inb_S1x4096x2x128_S1x4096x1x128_0_0_1_0).toLoadRect (kV m ρ c)
/-- The load of group 1's values. -/
def ldV1 (c : Dev nD) : Vec F S1x4096x1x128 .f32 := vM.view.readAt (Elt F) (Rect.unit (s := S1x4096x2x128) ![0, 0, 1, 0] S1x4096x1x128.size inb_S1x4096x2x128_S1x4096x1x128_0_0_1_0).toLoadRect (vV m ρ c)
/-- The queries of device `c`. -/
def qV (c : Dev nD) : FVec F S256x1024 .f32 := k0_pay1 (ldX m ρ c) (ldWq m ρ c)

/-- A packet's unnormalised output, row maximum and row sum, per head group. -/
def pktO (c : Dev nD) (g : Fin 2) : FVec F S1024x128 .f32 :=
  if g = 0 then k0_pay6 (k0_pay2 (ldV0 m ρ c)) (k0_pay5 (ldX m ρ c) (ldWq m ρ c) (ldK0 m ρ c))
  else k0_pay14 (k0_pay13 (qV m ρ c) (ldK1 m ρ c) (ldV1 m ρ c))
/-- The packet's row maxima. -/
def pktM (c : Dev nD) (g : Fin 2) : FVec F S1024x1 .f32 :=
  if g = 0 then k0_pay7 (k0_pay4 (ldX m ρ c) (ldWq m ρ c) (ldK0 m ρ c))
  else k0_pay15 (k0_pay10 (qV m ρ c) (ldK1 m ρ c))
/-- The packet's row sums. -/
def pktL (c : Dev nD) (g : Fin 2) : FVec F S1024x1 .f32 :=
  if g = 0 then k0_pay8 (k0_pay5 (ldX m ρ c) (ldWq m ρ c) (ldK0 m ρ c))
  else k0_pay16 (k0_pay12 (qV m ρ c) (ldK1 m ρ c))

/-- Entry `(r, j)` of device `c`'s packet buffer once both groups are written. -/
def pktAt (c : Dev nD) (r : Fin 2048) (j : Fin 130) : F .f32 :=
  if h : j.val < 128 then pktO m ρ c ⟨r.val / 1024, by omega⟩ (ix2 (⟨r.val % 1024, Nat.mod_lt _ (by decide)⟩ : Fin 1024) (⟨j.val, h⟩ : Fin 128))
  else if j.val = 128 then pktM m ρ c ⟨r.val / 1024, by omega⟩ (ix2 (⟨r.val % 1024, Nat.mod_lt _ (by decide)⟩ : Fin 1024) (0 : Fin 1))
  else pktL m ρ c ⟨r.val / 1024, by omega⟩ (ix2 (⟨r.val % 1024, Nat.mod_lt _ (by decide)⟩ : Fin 1024) (0 : Fin 1))
/-- Device `c`'s packet buffer once both groups are written. -/
def pktV (c : Dev nD) : (cc0_scratch0 : Ref sig .tc).ty.Contents (Elt F) := fun i => pktAt m ρ c (i 0) (i 1)
/-- Every device's receive buffer once everything has landed: slot `s` is device `s`'s packet buffer. -/
def rcvV : (cc0_scratch1 : Ref sig .tc).ty.Contents (Elt F) := fun i => pktAt m ρ (i 0) (i 1) (i 2)

/-! ## The pieces of the two buffers -/

/-- The rows of head group `g` in the packet buffer. -/
def rowSet (g : Fin 2) : Finset S2048x130.Idx := (Rect.unit (s := S2048x130) ![1024 * g.val, 0] S1024x130.size (rows_inb g)).set
/-- Slot `s`, head group `g`, of the receive buffer. -/
def slotSet (s : Dev nD) (g : Fin 2) : Finset S4x2048x130.Idx :=
  (Rect.unit (s := S4x2048x130) ![s.val, 1024 * g.val, 0] S1x1024x130.size (slot_inb s g)).set

/-- A copy's source is a group's rows, however its offset is written. -/
theorem rowsM_set (g : Fin 2) (off) (inb) (h : off = ![1024 * g.val, 0]) : (rowsM off inb).view.set = rowSet g := by
  subst h
  exact View.set_slice_whole _ _
/-- A copy's destination is a slot, however its offset is written. -/
theorem slotM_set (s : Dev nD) (g : Fin 2) (off) (inb) (h : off = ![s.val, 1024 * g.val, 0]) : (slotM off inb).view.set = slotSet s g := by
  subst h
  exact (View.set_reshape _ _).trans (View.set_slice_whole _ _)

/-- Device `c`'s packet rows of group `g`, at a share. -/
def rowPts (c : Dev nD) (g : Fin 2) (q : PosShare TreeShare) (f : (cc0_scratch0 : Ref sig .tc).ty.Contents (Elt F)) : sProp 𝕄 :=
  ((c : Thread nD τ).loc cc0_scratch0) ↦[rowSet g]{q} f
/-- Slot `s`, group `g`, of device `p`'s receive buffer. -/
def slotPts (p s : Dev nD) (g : Fin 2) (f : (cc0_scratch1 : Ref sig .tc).ty.Contents (Elt F)) : sProp 𝕄 :=
  ((p : Thread nD τ).loc cc0_scratch1) ↦[slotSet s g]{fullShare} f

omit [FloatOps F] [Named F] in
/-- Rows of the packet can be kept in a cell. -/
instance rowPts_storable (c g q f) : BI.Storable (upEmb : UEmb _ 𝕄) (rowPts (F := F) c g q f) := by unfold rowPts; infer_instance
omit [FloatOps F] [Named F] in
/-- A slot can be kept in a cell. -/
instance slotPts_storable (p s g f) : BI.Storable (upEmb : UEmb _ 𝕄) (slotPts (F := F) p s g f) := by unfold slotPts; infer_instance

/-- The four shares a packet's rows are read at: the three transfers and the local copy. -/
def qs (i : Fin 4) : PosShare TreeShare := ShareLeaves.leaf 2 fullShare i

omit [FloatOps F] [Named F] in
/-- The rows at the full share are the rows at the four shares. -/
theorem rowPts_shares (c : Dev nD) (g : Fin 2) (f) :
    (rowPts c g fullShare f : sProp 𝕄) = iprop(rowPts c g (qs 0) f ∗ rowPts c g (qs 1) f ∗ rowPts c g (qs 2) f ∗ rowPts c g (qs 3) f) := by
  unfold rowPts qs
  rw [ShareLeaves.pointsTo_leaves (Ix := Unit) (Name := ℕ) (U := UU) (Lvl := ℕ) (ℓ := (c : Thread nD τ).loc cc0_scratch0) (rowSet g) f 2 fullShare]
  rw [show (bigSep Finset.univ fun i : Fin (2 ^ 2) => (((c : Thread nD τ).loc cc0_scratch0) ↦[rowSet g]{ShareLeaves.leaf 2 fullShare i} f : sProp 𝕄))
      = bigSepL [(0 : Fin 4), 1, 2, 3] fun i => (((c : Thread nD τ).loc cc0_scratch0) ↦[rowSet g]{ShareLeaves.leaf 2 fullShare i} f : sProp 𝕄) from
    bigSep_univ_eq_bigSepL [(0 : Fin 4), 1, 2, 3] (by decide) (by decide) _]
  simp only [bigSepL_cons_cons, bigSepL_singleton]
  rfl

/-- A landing's contents: reading device `s`'s packet rows of group `g` and writing them over slot `s`, group `g`, leaves
    the final contents there. -/
theorem landing (s : Dev nD) (g : Fin 2) (off inb) (h : off = ![s.val, 1024 * g.val, 0]) (off' inb') (h' : off' = ![1024 * g.val, 0])
    (fd : (cc0_scratch1 : Ref sig .tc).ty.Contents (Elt F)) :
    ∀ i ∈ slotSet s g, (slotM off inb).view.write (Elt F) fd ((rowsM off' inb').view.read (Elt F) (pktV m ρ s)) Finset.univ i = rcvV m ρ i := by
  intro i hi
  rw [← slotM_set s g off inb h] at hi
  subst h; subst h'
  obtain ⟨x, -, rfl⟩ := Finset.mem_map.mp hi
  rw [View.write_emb_of_mem _ _ (Finset.mem_univ x)]
  show pktAt m ρ s _ _ = pktAt m ρ _ _ _
  have hx : Shape.reshapeEquiv (squeezes_S1x1024x130_S1024x130 : S1x1024x130.Squeezes S1024x130).numel_eq x
      = ix3 (⟨0, Nat.one_pos⟩ : Fin 1) (x 0) (x 1) := by
    conv_lhs => rw [eq_ix2 x]
    exact reshapeEquiv_ix2_1ab _ _ _
  have e0 : ∀ a, (((slotM ![s.val, 1024 * g.val, 0] (slot_inb s g)).view.emb x) a).val
      = (![s.val, 1024 * g.val, 0] : Fin 3 → Nat) a + ((ix3 (⟨0, Nat.one_pos⟩ : Fin 1) (x 0) (x 1) : S1x1024x130.Idx) a).val := fun a =>
    (ValueKit.view_emb_slice_whole_unit_val cc0_scratch1 _ _ (slot_inb s g) _ a).trans
      (congrArg (fun y : S1x1024x130.Idx => (![s.val, 1024 * g.val, 0] : Fin 3 → Nat) a + (y a).val) hx)
  have e1 : ∀ a, (((rowsM ![1024 * g.val, 0] (rows_inb g)).view.emb x) a).val = (![1024 * g.val, 0] : Fin 2 → Nat) a + (x a).val := fun a =>
    ValueKit.view_emb_slice_whole_unit_val cc0_scratch0 _ _ (rows_inb g) x a
  congr 1
  · exact Fin.ext (by have := e0 0; exact (this.trans (Nat.add_zero _)).symm)
  · exact Fin.ext ((e1 0).trans (e0 1).symm)
  · exact Fin.ext ((e1 1).trans (e0 2).symm)

/-! ## The schedule -/

/-- The credit of one transfer. -/
abbrev N : ℕ := (rowsM ![0, 0] inb_S2048x130_S1024x130_0_0).view.dmaCredit
/-- A landing credits something. -/
theorem N_pos : 0 < N := View.dmaCredit_pos _ (by decide)

/-- The duties of a cell of device `c` in round 0. -/
def dutiesK (c : Dev nD) : CK → Finset (Fin 3)
  | .inl _ => Finset.univ
  | .inr (.inr (.inl (_, s))) => if s = c then ∅ else {0}
  | _ => {0}
/-- The units of a duty. -/
def amountK : CK → ℕ
  | .inl _ => 1
  | _ => N
/-- What a duty hands over. -/
def payK (c : Dev nD) : CK → Fin 3 → sProp 𝕄
  | .inl _, k => iprop((∃ f, slotPts (peer k.rev c) c 0 f) ∗ (∃ f, slotPts (peer k.rev c) c 1 f))
  | .inr (.inl (g, k)), _ => rowPts c g (qs k.castSucc) (pktV m ρ c)
  | .inr (.inr (.inl (g, s))), _ => slotPts c s g (rcvV m ρ)
  | .inr (.inr (.inr g)), _ => iprop(slotPts c c g (rcvV m ρ) ∗ rowPts c g (qs 3) (pktV m ρ c))

/-- Every payload can be kept in a cell. -/
instance payK_storable (c : Dev nD) (k : CK) (d : Fin 3) : BI.Storable (upEmb : UEmb _ 𝕄) (payK m ρ c k d) := by
  rcases k with k | ⟨g, k⟩ | ⟨g, s⟩ | g <;> unfold payK <;> infer_instance

/-- The barrier's payload is the peer's slots for this device. -/
theorem payK_bar (c : Dev nD) (k : Fin 3) :
    payK m ρ c kbar k = iprop((∃ f, slotPts (peer k.rev c) c 0 f) ∗ (∃ f, slotPts (peer k.rev c) c 1 f)) := rfl
/-- A send's payload is the share of the rows that it read. -/
theorem payK_snd (c : Dev nD) (g k d) : payK m ρ c (ksnd g k) d = rowPts c g (qs k.castSucc) (pktV m ρ c) := rfl
/-- A landing's payload is the slot with the sender's packet. -/
theorem payK_rcv (c s : Dev nD) (g d) : payK m ρ c (krcv g s) d = slotPts c s g (rcvV m ρ) := rfl
/-- A local copy's payload is the slot with the packet and the share of the rows that it read. -/
theorem payK_cpy (c : Dev nD) (g d) : payK m ρ c (kcpy g) d = iprop(slotPts c c g (rcvV m ρ) ∗ rowPts c g (qs 3) (pktV m ρ c)) := rfl
/-- One duty on the cell where another device's packet lands. -/
theorem dutiesK_rcv (c s : Dev nD) (g : Fin 2) (h : s ≠ c) : dutiesK c (krcv g s) = {0} := if_neg h

/-- The exchange's schedule: one round. -/
def Rd : Rounds.Schedule (GSem nD τ sig) (Fin 3) 𝕄 where
  duties g r := if g.1.2 = .tc ∧ r = 0 then (match kindOf g.2 with | some k => dutiesK g.1.1 k | none => ∅) else ∅
  unitless _ := False
  amount g _ _ := match kindOf g.2 with | some k => amountK k | none => 1
  payload g _ d := match kindOf g.2 with | some k => payK m ρ g.1.1 k d | none => iprop(emp)
  amount_pos g _ _ _ := by
    rcases kindOf g.2 with _ | (k | ⟨g, k⟩ | ⟨g, s⟩ | g)
    · exact Nat.one_pos
    · exact Nat.one_pos
    all_goals exact N_pos

/-- The schedule's payloads can be kept. -/
instance Rd_storable (g : GSem nD τ sig) (r : ℕ) (d : Fin 3) : BI.Storable (upEmb : UEmb _ 𝕄) ((Rd (F := F) m ρ).payload g r d) := by
  show BI.Storable upEmb (match kindOf g.2 with | some k => payK m ρ g.1.1 k d | none => iprop(emp))
  rcases kindOf g.2 with _ | k <;> infer_instance

/-- The schedule's duties at a cell. -/
theorem duties_cell (c : Dev nD) (k : CK) : (Rd (F := F) m ρ).duties (cell c k) 0 = dutiesK c k := by
  dsimp only [Rd]; rw [if_pos ⟨rfl, rfl⟩, kindOf_csem]
/-- No duties after the first round. -/
theorem duties_later (g : GSem nD τ sig) : ∀ r, 1 ≤ r → (Rd (F := F) m ρ).duties g r = ∅ :=
  fun r hr => by dsimp only [Rd]; rw [if_neg fun h => by omega]
/-- No duty on the landing cell of a device's own packet. -/
theorem duties_own (c : Dev nD) (g : Fin 2) : ∀ r, 0 ≤ r → (Rd (F := F) m ρ).duties (cell c (krcv g c)) r = ∅ := fun r hr => by
  rcases Nat.eq_zero_or_pos r with rfl | h
  · rw [duties_cell]; exact if_pos rfl
  · exact duties_later m ρ _ r h
/-- The amount of a duty at a cell. -/
theorem amount_cell (c : Dev nD) (k : CK) (r d) : (Rd (F := F) m ρ).amount (cell c k) r d = amountK k := by
  dsimp only [Rd]; rw [kindOf_csem]
/-- The payload of a duty at a cell. -/
theorem payload_cell (c : Dev nD) (k : CK) (r d) : (Rd (F := F) m ρ).payload (cell c k) r d = payK m ρ c k d := by
  dsimp only [Rd]; rw [kindOf_csem]

/-- The barrier expects three signals. -/
theorem expect_bar (c : Dev nD) : (Rd (F := F) m ρ).expect (cell c kbar) 0 = 3 := by
  unfold Schedule.expect Schedule.amountOf
  rw [duties_cell, Finset.sum_congr rfl fun d _ => amount_cell m ρ c kbar 0 d]
  simp [dutiesK, amountK]
/-- A cell with one duty expects one landing. -/
theorem expect_one (c : Dev nD) (k : CK) (h : dutiesK c k = {0}) (ha : amountK k = N) : (Rd (F := F) m ρ).expect (cell c k) 0 = N := by
  unfold Schedule.expect Schedule.amountOf
  rw [duties_cell, h, Finset.sum_singleton, amount_cell, ha]

/-- All that a barrier round hands over: the three peers' slots. -/
theorem rest_bar (c : Dev nD) :
    bigSep ((Rd (F := F) m ρ).duties (cell c kbar) 0 \ ∅) (fun d => (Rd (F := F) m ρ).payload (cell c kbar) 0 d)
      = iprop(payK m ρ c kbar 0 ∗ payK m ρ c kbar 1 ∗ payK m ρ c kbar 2) := by
  rw [Finset.sdiff_empty, duties_cell, show dutiesK c kbar = Finset.univ from rfl, bigSep_univ_eq_bigSepL [0, 1, 2] (by decide) (by decide),
    bigSepL_cons_cons, bigSepL_cons_cons, bigSepL_singleton, payload_cell, payload_cell, payload_cell]
  rfl
/-- All that a round of one duty hands over. -/
theorem rest_one (c : Dev nD) (k : CK) (h : dutiesK c k = {0}) :
    bigSep ((Rd (F := F) m ρ).duties (cell c k) 0 \ ∅) (fun d => (Rd (F := F) m ρ).payload (cell c k) 0 d) = payK m ρ c k 0 := by
  rw [Finset.sdiff_empty, duties_cell, h, bigSep_singleton, payload_cell]

/-! ## What each device owes at launch; the levels -/

/-- A sum of tallies, the first of the list outermost. -/
def tally : List (GSem nD τ sig × ℕ) → CellTallies nD τ sig Unit
  | [] => 0
  | p :: l => tally l + tallyAt p.1 () p.2

/-- The six transfers device `c` owes, in program order. -/
def oweRcv (c : Dev nD) : List (GSem nD τ sig × ℕ) :=
  [(cell (peer 0 c) (krcv 0 c), N), (cell (peer 1 c) (krcv 0 c), N), (cell (peer 2 c) (krcv 0 c), N),
   (cell (peer 0 c) (krcv 1 c), N), (cell (peer 1 c) (krcv 1 c), N), (cell (peer 2 c) (krcv 1 c), N)]
/-- Everything it owes, in program order: its three signals, then the transfers. -/
def oweAll (c : Dev nD) : List (GSem nD τ sig × ℕ) :=
  (cell (peer 0 c) kbar, 1) :: (cell (peer 1 c) kbar, 1) :: (cell (peer 2 c) kbar, 1) :: oweRcv c

/-- What a device owes at the start. -/
def O₀ (c : Dev nD) : CellTallies nD τ sig Unit := tally (oweAll c)

/-- The levels' labels: one for a TensorCore's cell. -/
def L (g : GSem nD τ sig) : Finset Unit := if g.1.2 = .tc then {()} else ∅
/-- Barrier cells at 1, receive cells at 2, the rest at 0. -/
def lv (g : GSem nD τ sig) (_ : Unit) : ℕ :=
  match kindOf g.2 with
  | some (.inl _) => 1
  | some (.inr (.inr (.inl _))) => 2
  | _ => 0

/-- No labels elsewhere. -/
theorem L_of_ne (g : GSem nD τ sig) (h : g.1.2 ≠ .tc) : L g = ∅ := if_neg h
/-- One label for a cell of a device. -/
theorem L_tc (c : Dev nD) (sm : SemLoc sig) : L ((c : Thread nD τ), sm) = {()} := if_pos rfl
/-- The barrier's level. -/
theorem lv_bar (c : Dev nD) (u : Unit) : lv (cell c kbar) u = 1 := by dsimp only [lv]; rw [kindOf_csem]
/-- A landing's level. -/
theorem lv_rcv (c : Dev nD) (g s) (u : Unit) : lv (cell c (krcv g s)) u = 2 := by dsimp only [lv]; rw [kindOf_csem]

/-- A sum of tallies is positive only at a cell of the list. -/
theorem tally_pos : ∀ {l : List (GSem nD τ sig × ℕ)} {g : GSem nD τ sig} {u : Unit}, 0 < tally l g u → ∃ p ∈ l, g = p.1
  | [], g, u, h => absurd h (Nat.lt_irrefl 0)
  | p :: l, g, u, h => by
    unfold tally at h
    rw [Pi.add_apply, Finsupp.add_apply, tallyAt_apply] at h
    by_cases hg : g = p.1 ∧ u = ()
    · exact ⟨p, List.mem_cons_self, hg.1⟩
    · rw [if_neg hg, Nat.add_zero] at h
      obtain ⟨p', hp', e⟩ := tally_pos h
      exact ⟨p', List.mem_cons_of_mem _ hp', e⟩

omit [FloatOps F] [Named F] in
/-- A wait below every cell of the list is allowed while owing it. -/
theorem mayWait_list (c : Dev nD) (sm : SemLoc sig) (cut : ℕ) (l : List (GSem nD τ sig × ℕ))
    (hc : lv ((c : Thread nD τ), sm) () ≤ cut) (hl : ∀ p ∈ l, p.1.1.2 = .tc ∧ cut < lv p.1 ()) :
    (levAts L lv : sProp 𝕄) ⊢ MayWait (c : Thread nD τ) sm () (tally l) :=
  MayOwe.of_cut (L := L) (lev := lv) cut (fun p hp => by rw [Finset.mem_singleton.mp hp, L_tc]; exact Finset.mem_singleton_self _)
    (fun g u hg => by obtain ⟨p, hp, rfl⟩ := tally_pos hg; rw [show L p.1 = {()} from if_pos (hl p hp).1]; exact Finset.mem_singleton_self _)
    (fun p hp => by rw [Finset.mem_singleton.mp hp]; exact hc)
    (fun g u hg => by obtain ⟨p, hp, rfl⟩ := tally_pos hg; exact (hl p hp).2)

/-- The landings that are owed lie above the barrier. -/
theorem oweRcv_above (c : Dev nD) : ∀ p ∈ oweRcv c, p.1.1.2 = .tc ∧ 1 < lv p.1 () := by
  intro p hp
  simp only [oweRcv, List.mem_cons, List.not_mem_nil, or_false] at hp
  rcases hp with rfl | rfl | rfl | rfl | rfl | rfl <;> exact ⟨rfl, by rw [lv_rcv]; decide⟩
/-- All that is owed lies above the ground level. -/
theorem oweAll_above (c : Dev nD) : ∀ p ∈ oweAll c, p.1.1.2 = .tc ∧ 0 < lv p.1 () := by
  intro p hp
  simp only [oweAll, List.mem_cons] at hp
  rcases hp with rfl | rfl | rfl | hp
  · exact ⟨rfl, by rw [lv_bar]; decide⟩
  · exact ⟨rfl, by rw [lv_bar]; decide⟩
  · exact ⟨rfl, by rw [lv_bar]; decide⟩
  · exact ⟨(oweRcv_above c p hp).1, Nat.lt_trans Nat.one_pos (oweRcv_above c p hp).2⟩

end Cert.KernelIdeal.Exchange

end
-- ==== Proof.KernelIdealOps.lean ====
/-
The body's communication operations, one lemma each: what a signal, a transfer, a local copy and each wait takes and
gives back under the exchange's schedule. Each is stated once, for every device, group and peer.
-/
module

public import proofs.«01_k».proof.Proof.KernelIdealComm

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ)

/-- No loop variants. -/
abbrev 𝒱₀ : Variants := Variants.none

/-- What every device may use at any time: every cell's invariant, and that every cell has reached round 0. -/
def records : sProp 𝕄 :=
  iprop((bigSep Finset.univ fun ck : Dev nD × CK => cellInv ER (Rd m ρ) (K ck) (cell ck.1 ck.2))
    ∗ (bigSep Finset.univ fun ck : Dev nD × CK => reached ER (cell ck.1 ck.2) 0))

/-- The records of the cells may be used again and again. -/
instance records_persistent : BI.Persistent (records m ρ K) := by unfold records; infer_instance

/-- One cell's part of the records. -/
theorem records_at (c : Dev nD) (k : CK) :
    records m ρ K ⊢ iprop(cellInv ER (Rd m ρ) (K (c, k)) (cell c k) ∗ reached ER (cell c k) 0) :=
  BI.sep_mono (bigSep_elim (Φ := fun ck : Dev nD × CK => cellInv ER (Rd m ρ) (K ck) (cell ck.1 ck.2)) (Finset.mem_univ (c, k)))
    (bigSep_elim (Φ := fun ck : Dev nD × CK => (reached ER (cell ck.1 ck.2) 0 : sProp 𝕄)) (Finset.mem_univ (c, k)))

/-- Device `c` owes the tallies of the list. -/
def ow (c : Dev nD) (l : List (GSem nD τ sig × ℕ)) : sProp 𝕄 := iprop(∃ W, owes (c : Thread nD τ) (tally l) W)

/-- The run of a program on device `c` reaches `Q`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The `k`-th signal: it hands the `k`-th peer this device's two receive pieces of that peer's slot. -/
theorem run_signal {α : Type} {kk : PUnit → Prog (TpuEff nD τ sig (Elt F) Λ₀ .tc) α} (Q : α → sProp 𝕄)
    (c n : Dev nD) (k : Fin 3) (hn : n = peer k c) (l : List (GSem nD τ sig × ℕ)) :
    iprop(records m ρ K ∗ ow c ((cell (peer k c) kbar, 1) :: l) ∗ dutyTok ER (cell (peer k c) kbar) 0 k
        ∗ (∃ f, slotPts c (peer k c) 0 f) ∗ (∃ f, slotPts c (peer k c) 1 f))
      ⊢ iprop((ow c l -∗ Run c (kk ⟨⟩) Q) -∗ Run c (.op (.semSignal (n, .tc) barS (1#32).toInt) kk) Q) := by
  subst hn
  iintro ⟨#HR, HO, Htok, H0, H1⟩ Hk
  unfold ow
  icases HO with ⟨%W, HO⟩
  ihave ⟨#HI, #Hr⟩ := (records_at m ρ K (peer k c) kbar) $$ HR
  iapply (Rounds.wp_signal 𝒱₀ ER (Rd m ρ) (c : Thread nD τ) none (dst := (peer k c : Thread nD τ)) (sem := barS) (k' := 1) (κ := K (peer k c, kbar)) (r := 0)
      (d := k) (by rw [show ((peer k c : Thread nD τ), SemLoc.reg barS) = cell (peer k c) kbar from rfl, duties_cell]; exact Finset.mem_univ _)
      (amount_cell m ρ (peer k c) kbar 0 k) () (tally l) rfl) $$ [HO Htok H0 H1]
  · isplitr; · iexact HI
    isplitl [HO]; · iexact HO
    isplitl [Htok]; · iexact Htok
    isplitl [H0 H1]
    · rw [show ((peer k c : Thread nD τ), SemLoc.reg barS) = cell (peer k c) kbar from rfl, payload_cell, payK_bar, peer_rev_peer]
      isplitl [H0] <;> iassumption
    · iexact Hr
  iintro HO
  iapply Hk
  iexists W; iexact HO

/-- The wait for the three signals, owing only transfers: the cell closed, the peers' pieces of this device's slot in hand. -/
theorem run_barrier {α : Type} {kk : PUnit → Prog (TpuEff nD τ sig (Elt F) Λ₀ .tc) α} (Q : α → sProp 𝕄)
    (c : Dev nD) :
    iprop(records m ρ K ∗ levAts L lv ∗ ow c (oweRcv c) ∗ cred (tallyAt (cell c kbar) () 3) ∗ atPos ER (cell c kbar) 0 ∅ 0)
      ⊢ iprop(((ow c (oweRcv c) ∗ semVal (cell c kbar) 0 ∗ payK m ρ c kbar 0 ∗ payK m ρ c kbar 1 ∗ payK m ρ c kbar 2) -∗ Run c (kk ⟨⟩) Q)
          -∗ Run c (.op (.semWait barS (3#32).toInt) kk) Q) := by
  iintro ⟨#HR, #Hlev, HO, Hc, Hat⟩ Hk
  unfold ow
  icases HO with ⟨%W, HO⟩
  ihave ⟨#HI, #Hr⟩ := (records_at m ρ K c kbar) $$ HR
  iapply (Rounds.wp_wait_rest_token 𝒱₀ ER (Rd m ρ) (c : Thread nD τ) none (κ := K (c, kbar))
      (wpE_semWait_eq (k := 3) 𝒱₀ (c : Thread nD τ) none Set.univ) (Set.mem_univ _) () (O := tally (oweRcv c)) (W := W) (R := 0) (m := 0) (T := ∅)
      (by rw [Nat.zero_add]; exact (expect_bar m ρ c).symm)) $$ [Hc HO Hat]
  · isplitr; · iexact HI
    isplitl [Hc]; · iexact Hc
    isplitl [HO]; · iexact HO
    isplitr
    · iapply (mayWait_list c (.reg barS) 1 (oweRcv c) (le_of_eq (lv_bar c ())) (oweRcv_above c)); iexact Hlev
    iexact Hat
  rw [show ((c : Thread nD τ), SemLoc.reg barS) = cell c kbar from rfl]
  iintro ⟨HO, Hat, -, Hpay⟩
  ihave Hpay := (Entails.of_eq (rest_bar m ρ c)) $$ Hpay
  imod (Rounds.cell_close ER (Rd m ρ) (Set.mem_univ (K (c, kbar))) (fun h => h) (R := 0 + 1) (duties_later m ρ (cell c kbar))) $$ [Hat] with Hz
  · isplitr; · iexact HI
    iexact Hat
  iapply Hk
  isplitl [HO]; · iexists _; iexact HO
  isplitl [Hz]; · iexact Hz
  iexact Hpay

/-- The local copy of a packet into this device's own slot. -/
theorem run_copy {α : Type} {kk : PUnit → Prog (TpuEff nD τ sig (Elt F) Λ₀ .tc) α} (Q : α → sProp 𝕄)
    (c : Dev nD) (g : Fin 2) {off inb off' inb' offs inbs} (h : off = ![c.val, 1024 * g.val, 0]) (h' : off' = ![1024 * g.val, 0])
    (hs : offs = ![g.val]) {hsrc hdst hsem} :
    iprop(records m ρ K ∗ rowPts c g (qs 3) (pktV m ρ c) ∗ (∃ f, slotPts c c g f) ∗ dutyTok ER (cell c (kcpy g)) 0 0)
      ⊢ iprop((cred (tallyAt (cell c (kcpy g)) () N) -∗ Run c (kk ⟨⟩) Q)
          -∗ Run c (.op (.enqueueDma (rowsM off' inb') (.here (slotM off inb)) (.dma (cpyS offs inbs)) hsrc hdst hsem) kk) Q) := by
  subst hs
  iintro ⟨#HR, Hrow, ⟨%f, Hslot⟩, Htok⟩ Hk
  ihave ⟨#HI, #Hr⟩ := (records_at m ρ K c (kcpy g)) $$ HR
  unfold rowPts slotPts
  rw [← rowsM_set g off' inb' h', ← slotM_set c g off inb h]
  iapply (Rounds.wp_copy_pointsTo 𝒱₀ ER (Rd m ρ) (c : Thread nD τ) none (src := rowsM off' inb') (dst := slotM off inb)
      (sem := .dma (cpyS ![g.val] inbs)) (κ := K (c, kcpy g)) (r := 0) (d := 0) (q := qs 3) (fs := pktV m ρ c) (fd := f)
      (by rw [show ((c : Thread nD τ), SemLoc.dma (cpyS ![g.val] inbs)) = cell c (kcpy g) from rfl, duties_cell]; exact Finset.mem_singleton_self _)
      () N rfl (amount_cell m ρ c (kcpy g) 0 0)
      (by
        rw [show ((c : Thread nD τ), SemLoc.dma (cpyS ![g.val] inbs)) = cell c (kcpy g) from rfl, payload_cell, payK_cpy]
        unfold rowPts slotPts
        rw [← rowsM_set g off' inb' h', ← slotM_set c g off inb h]
        refine sep_mono_left (Entails.of_eq ?_)
        exact pointsTo_congr (fun i hi => landing m ρ c g off inb h off' inb' h' f i (slotM_set c g off inb h ▸ hi)))) $$ [Hrow Hslot Htok]
  · isplitr; · iexact HI
    isplitl [Hrow]; · iexact Hrow
    isplitl [Hslot]; · iexact Hslot
    isplitl [Htok]; · iexact Htok
    iexact Hr
  iintro Hc
  iapply Hk; iexact Hc

/-- The `k`-th transfer of group `g`: it lands in this device's slot of the `k`-th peer. -/
theorem run_send {α : Type} {kk : PUnit → Prog (TpuEff nD τ sig (Elt F) Λ₀ .tc) α} (Q : α → sProp 𝕄)
    (c n : Dev nD) (k : Fin 3) (hn : n = peer k c) (g : Fin 2) {off inb off' inb' offs inbs offr inbr}
    (h : off = ![c.val, 1024 * g.val, 0]) (h' : off' = ![1024 * g.val, 0]) (hs : offs = ![g.val, k.val]) (hr : offr = ![g.val, c.val])
    {hsc} {hsrc hdst hsem} (l : List (GSem nD τ sig × ℕ)) :
    iprop(records m ρ K ∗ ow c ((cell (peer k c) (krcv g c), N) :: l) ∗ rowPts c g (qs k.castSucc) (pktV m ρ c) ∗ (∃ f, slotPts (peer k c) c g f)
        ∗ dutyTok ER (cell c (ksnd g k)) 0 0 ∗ dutyTok ER (cell (peer k c) (krcv g c)) 0 0)
      ⊢ iprop(((cred (tallyAt (cell c (ksnd g k)) () N) ∗ ow c l) -∗ Run c (kk ⟨⟩) Q)
          -∗ Run c (.op (.enqueueDma (rowsM off' inb') (.remote (Dev.tc n : Thread nD τ) (slotM off inb) (.dma (sndS offs inbs)) hsc)
              (.dma (rcvS offr inbr)) hsrc hdst hsem) kk) Q) := by
  subst hs; subst hr; subst hn
  iintro ⟨#HR, HO, Hrow, ⟨%f, Hslot⟩, Hts, Htr⟩ Hk
  ihave ⟨#HIs, #Hrs⟩ := (records_at m ρ K c (ksnd g k)) $$ HR
  ihave ⟨#HIr, #Hrr⟩ := (records_at m ρ K (peer k c) (krcv g c)) $$ HR
  unfold ow rowPts slotPts
  icases HO with ⟨%W, HO⟩
  rw [← rowsM_set g off' inb' h', ← slotM_set c g off inb h]
  iapply (Rounds.wp_send_pointsTo 𝒱₀ ER (Rd m ρ) (c : Thread nD τ) none (c' := (peer k c : Thread nD τ)) (src := rowsM off' inb') (dst := slotM off inb)
      (sS := .dma (sndS ![g.val, k.val] inbs)) (sem := .dma (rcvS ![g.val, c.val] inbr))
      (κ₁ := K (c, ksnd g k)) (κ₂ := K (peer k c, krcv g c)) (r₁ := 0) (r₂ := 0) (d₁ := 0) (d₂ := 0) (q := qs k.castSucc) (fs := pktV m ρ c) (fd := f)
      (by rw [show ((c : Thread nD τ), SemLoc.dma (sndS ![g.val, k.val] inbs)) = cell c (ksnd g k) from rfl, duties_cell]; exact Finset.mem_singleton_self _)
      (by rw [show ((peer k c : Thread nD τ), SemLoc.dma (rcvS ![g.val, c.val] inbr)) = cell (peer k c) (krcv g c) from rfl, duties_cell, dutiesK_rcv _ _ _ (peer_ne k c).symm]
          exact Finset.mem_singleton_self _)
      () () N rfl (amount_cell m ρ c (ksnd g k) 0 0) (amount_cell m ρ (peer k c) (krcv g c) 0 0) (tally l) rfl (W := W)
      (by
        rw [show ((c : Thread nD τ), SemLoc.dma (sndS ![g.val, k.val] inbs)) = cell c (ksnd g k) from rfl, payload_cell, payK_snd]
        unfold rowPts
        rw [← rowsM_set g off' inb' h'])
      (by
        rw [show ((peer k c : Thread nD τ), SemLoc.dma (rcvS ![g.val, c.val] inbr)) = cell (peer k c) (krcv g c) from rfl, payload_cell, payK_rcv]
        unfold slotPts
        rw [← slotM_set c g off inb h]
        exact Entails.of_eq (pointsTo_congr (fun i hi => landing m ρ c g off inb h off' inb' h' f i (slotM_set c g off inb h ▸ hi))))) $$ [HO Hrow Hslot Hts Htr]
  · isplitr; · iexact HIs
    isplitr; · iexact HIr
    isplitl [Hrow]; · iexact Hrow
    isplitl [Hslot]; · iexact Hslot
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

/-- A wait for one transfer's credit on a cell of one duty, owing nothing: the cell closed, its payload in hand. -/
theorem run_wait {α : Type} {kk : PUnit → Prog (TpuEff nD τ sig (Elt F) Λ₀ .tc) α} (Q : α → sProp 𝕄)
    (c : Dev nD) (k : CK) (hd : dutiesK c k = {0}) (ha : amountK k = N) {sem : DmaSem sig} (hsem : csem k = .dma sem)
    {sp sp' : Space} {s' s'' : Shape} {e' e'' : EltTy} {src : Memref sig .tc sp' s' e'} {κ' : Kind} {dst : Memref sig κ' sp s'' e''}
    {hsrc hdst} (hN : dst.view.dmaCredit = N) :
    iprop(records m ρ K ∗ ow c [] ∗ cred (tallyAt (cell c k) () N) ∗ atPos ER (cell c k) 0 ∅ 0)
      ⊢ iprop(((ow c [] ∗ semVal (cell c k) 0 ∗ payK m ρ c k 0) -∗ Run c (kk ⟨⟩) Q)
          -∗ Run c (.op (.waitDma2 sem src dst hsrc hdst) kk) Q) := by
  iintro ⟨#HR, HO, Hc, Hat⟩ Hk
  unfold ow
  icases HO with ⟨%W, HO⟩
  ihave ⟨#HI, #Hr⟩ := (records_at m ρ K c k) $$ HR
  have hw : ∀ Kt : PUnit → sProp 𝕄, wpE (defs₀ (F := F)) 𝒱₀ (c : Thread nD τ) none Set.univ (.waitDma2 sem src dst hsrc hdst) Kt
      = waitSpec (c : Thread nD τ) Set.univ (csem k) N Kt := fun Kt => by rw [hsem, ← hN]; exact wpE_waitDma2_eq 𝒱₀ (c : Thread nD τ) none Set.univ Kt
  iapply (Rounds.wp_wait_rest_token 𝒱₀ ER (Rd m ρ) (c : Thread nD τ) none (κ := K (c, k))
      hw (Set.mem_univ _) () (O := tally []) (W := W) (R := 0) (m := 0) (T := ∅)
      (by rw [Nat.zero_add]; exact (expect_one m ρ c k hd ha).symm)) $$ [Hc HO Hat]
  · isplitr; · iexact HI
    isplitl [Hc]; · iexact Hc
    isplitl [HO]; · iexact HO
    isplitr; · rw [show tally [] = 0 from rfl, MayWait_zero]; iempintro
    iexact Hat
  iintro ⟨HO, Hat, -, Hpay⟩
  ihave Hpay := (Entails.of_eq (rest_one m ρ c k hd)) $$ Hpay
  imod (Rounds.cell_close ER (Rd m ρ) (Set.mem_univ (K (c, k))) (fun h => h) (R := 0 + 1) (duties_later m ρ (cell c k))) $$ [Hat] with Hz
  · isplitr; · iexact HI
    iexact Hat
  iapply Hk
  isplitl [HO]; · iexists _; iexact HO
  isplitl [Hz]; · iexact Hz
  iexact Hpay

/-- The receive cell of a device's own slot is never used: it closes at once. -/
theorem close_own (c : Dev nD) (g : Fin 2) :
    iprop(records m ρ K ∗ atPos ER (cell c (krcv g c)) 0 ∅ 0) ⊢ iprop(|={Set.univ}=> semVal (cell c (krcv g c)) 0) := by
  iintro ⟨#HR, Hat⟩
  ihave ⟨#HI, #Hr⟩ := (records_at m ρ K c (krcv g c)) $$ HR
  iapply (Rounds.cell_close ER (Rd m ρ) (Set.mem_univ (K (c, krcv g c))) (fun h => h) (R := 0) (duties_own m ρ c g))
  isplitr; · iexact HI
  iexact Hat

end Cert.KernelIdeal.Exchange

end
-- ==== Proof.KernelIdealBuf.lean ====
/-
The pieces of the two scratch buffers: the receive buffer as two groups of four slots, the packet buffer as two groups of
rows, with the loads and stores that stay inside one group, and what a group's three stores leave.
-/
module

public import proofs.«01_k».proof.Proof.KernelIdealOps

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The receive buffer: two groups of four slots -/

/-- The head group `g` of every slot of the receive buffer. -/
def grpSet (g : Fin 2) : Finset S4x2048x130.Idx := Finset.univ.biUnion fun s : Dev nD => slotSet s g

/-- The places of a slot: its device's, in its group's rows. -/
theorem mem_slotSet (s : Dev nD) (g : Fin 2) (i : S4x2048x130.Idx) :
    i ∈ slotSet s g ↔ (i 0).val = s.val ∧ 1024 * g.val ≤ (i 1).val ∧ (i 1).val < 1024 * g.val + 1024 := by
  unfold slotSet
  rw [Rect.mem_set_unit]
  constructor
  · intro h
    have h0 := h 0
    have h1 := h 1
    simp only [Matrix.cons_val_zero, Matrix.cons_val_one, S1x1024x130] at h0 h1
    exact ⟨by omega, h1.1, h1.2⟩
  · rintro ⟨h0, h1, h2⟩ a
    fin_cases a
    · exact ⟨le_of_eq h0.symm, Nat.lt_succ_of_le (le_of_eq h0)⟩
    · exact ⟨h1, h2⟩
    · exact ⟨Nat.zero_le _, (i 2).isLt.trans_eq (Nat.zero_add 130).symm⟩

/-- Two devices' slots have no place in common. -/
theorem slots_disjoint (g : Fin 2) (s t : Dev nD) (h : s ≠ t) : Disjoint (slotSet s g) (slotSet t g) :=
  Finset.disjoint_left.mpr fun i hs ht => h (Fin.ext (((mem_slotSet s g i).mp hs).1.symm.trans ((mem_slotSet t g i).mp ht).1))

/-- The places of a group in the receive buffer. -/
theorem mem_grpSet (g : Fin 2) (i : S4x2048x130.Idx) :
    i ∈ grpSet g ↔ 1024 * g.val ≤ (i 1).val ∧ (i 1).val < 1024 * g.val + 1024 := by
  unfold grpSet
  rw [Finset.mem_biUnion]
  constructor
  · rintro ⟨s, -, h⟩; exact ((mem_slotSet s g i).mp h).2
  · intro h; exact ⟨⟨(i 0).val, (i 0).isLt⟩, Finset.mem_univ _, (mem_slotSet _ g i).mpr ⟨rfl, h⟩⟩

/-- The two groups have no place in common. -/
theorem grps_disjoint : Disjoint (grpSet 0) (grpSet 1) :=
  Finset.disjoint_left.mpr fun i h0 h1 => by
    have h0 := (mem_grpSet 0 i).mp h0
    have h1 := (mem_grpSet 1 i).mp h1
    simp only [Fin.val_zero, Fin.val_one] at h0 h1
    omega

/-- The two groups are the whole receive buffer. -/
theorem grps_union : grpSet 0 ∪ grpSet 1 = Finset.univ := Finset.eq_univ_of_forall fun i => by
  rw [Finset.mem_union, mem_grpSet, mem_grpSet]
  have h : (i 1).val < 2048 := (i 1).isLt
  simp only [Fin.val_zero, Fin.val_one]
  omega

/-- The head group `g` of every slot of device `c`'s receive buffer. -/
def grpPts (c : Dev nD) (g : Fin 2) (f : (cc0_scratch1 : Ref sig .tc).ty.Contents (Elt F)) : sProp 𝕄 :=
  ((c : Thread nD τ).loc cc0_scratch1) ↦[grpSet g]{fullShare} f

omit [FloatOps F] [Named F] in
/-- A whole receive buffer is its two groups. -/
theorem rcv_groups (c : Dev nD) (f) :
    (((c : Thread nD τ).loc cc0_scratch1) ↦{fullShare} f : sProp 𝕄) = iprop(grpPts c 0 f ∗ grpPts c 1 f) := by
  unfold grpPts
  have h := BI.Entails.antisymm ((pointsTo_union (Ix := Unit) (Name := ℕ) (U := UU) (Lvl := ℕ) (ℓ := (c : Thread nD τ).loc cc0_scratch1) (q := fullShare) (f := f) grps_disjoint).1)
    ((pointsTo_union (Ix := Unit) (Name := ℕ) (U := UU) (Lvl := ℕ) (ℓ := (c : Thread nD τ).loc cc0_scratch1) (q := fullShare) (f := f) grps_disjoint).2)
  rw [← h, grps_union]

omit [FloatOps F] [Named F] in
/-- A group is the device's own slot and its three peers' slots. -/
theorem grp_slots (c : Dev nD) (g : Fin 2) (f) :
    (grpPts c g f : sProp 𝕄) = iprop(slotPts c c g f ∗ slotPts c (peer 0 c) g f ∗ slotPts c (peer 1 c) g f ∗ slotPts c (peer 2 c) g f) := by
  unfold grpPts grpSet
  rw [pointsTo_biUnion (Ix := Unit) (Name := ℕ) (U := UU) (Lvl := ℕ) (ℓ := (c : Thread nD τ).loc cc0_scratch1) Finset.univ (fun s : Dev nD => slotSet s g)
    (fun s _ t _ h => slots_disjoint g s t h)]
  rw [bigSep_univ_eq_bigSepL [c, peer 0 c, peer 1 c, peer 2 c] (by revert c; decide) (by revert c; decide) _]
  simp only [bigSepL_cons_cons, bigSepL_singleton]
  rfl

/-- A load of a group's part of the receive buffer, once the group has landed. -/
theorem run_loadGrp {α : Type} (Q : α → sProp 𝕄) (c : Dev nD) (g : Fin 2) {off size : Fin 3 → Nat} {inb}
    (hr : 1024 * g.val ≤ off 1 ∧ off 1 + size 1 ≤ 1024 * g.val + 1024) {hl}
    {kk : ((Rect.unit (s := S4x2048x130) off size inb).toLoadRect.shape.Idx → Elt F .f32) → Prog (TpuEff nD τ sig (Elt F) Λ₀ .tc) α} :
    (grpPts c g (rcvV m ρ) : sProp 𝕄)
      ⊢ iprop((grpPts c g (rcvV m ρ) -∗ Run c (kk (rM.view.readAt (Elt F) (Rect.unit (s := S4x2048x130) off size inb).toLoadRect (rcvV m ρ))) Q)
          -∗ Run c (.op (.load rM (Rect.unit (s := S4x2048x130) off size inb).toLoadRect hl) kk) Q) := by
  unfold grpPts
  refine wp_load (m := rM) 𝒱₀ (c : Thread nD τ) none Set.univ ?_
  intro i hi
  obtain ⟨x, hx, rfl⟩ := Finset.mem_map.mp hi
  have h1 := Rect.mem_set_unit.mp hx 1
  refine (mem_grpSet g _).mpr ?_
  show 1024 * g.val ≤ (x 1).val ∧ (x 1).val < 1024 * g.val + 1024
  omega

/-! ## The packet buffer: two groups of rows -/

/-- The places of a group in the packet. -/
theorem mem_rowSet (g : Fin 2) (i : S2048x130.Idx) : i ∈ rowSet g ↔ 1024 * g.val ≤ (i 0).val ∧ (i 0).val < 1024 * g.val + 1024 := by
  unfold rowSet
  rw [Rect.mem_set_unit]
  constructor
  · intro h; exact h 0
  · intro h a
    fin_cases a
    · exact h
    · exact ⟨Nat.zero_le _, (i 1).isLt.trans_eq (Nat.zero_add 130).symm⟩

/-- The two groups' rows have no place in common. -/
theorem rows_disjoint : Disjoint (rowSet 0) (rowSet 1) :=
  Finset.disjoint_left.mpr fun i h0 h1 => by
    have h0 := (mem_rowSet 0 i).mp h0
    have h1 := (mem_rowSet 1 i).mp h1
    simp only [Fin.val_zero, Fin.val_one] at h0 h1
    omega

/-- The two groups' rows are the whole packet. -/
theorem rows_union : rowSet 0 ∪ rowSet 1 = Finset.univ := Finset.eq_univ_of_forall fun i => by
  rw [Finset.mem_union, mem_rowSet, mem_rowSet]
  have h : (i 0).val < 2048 := (i 0).isLt
  simp only [Fin.val_zero, Fin.val_one]
  omega

omit [FloatOps F] [Named F] in
/-- A whole packet buffer is its two groups of rows. -/
theorem pkt_groups (c : Dev nD) (f) :
    (((c : Thread nD τ).loc cc0_scratch0) ↦{fullShare} f : sProp 𝕄) = iprop(rowPts c 0 fullShare f ∗ rowPts c 1 fullShare f) := by
  unfold rowPts
  have h := BI.Entails.antisymm ((pointsTo_union (Ix := Unit) (Name := ℕ) (U := UU) (Lvl := ℕ) (ℓ := (c : Thread nD τ).loc cc0_scratch0) (q := fullShare) (f := f) rows_disjoint).1)
    ((pointsTo_union (Ix := Unit) (Name := ℕ) (U := UU) (Lvl := ℕ) (ℓ := (c : Thread nD τ).loc cc0_scratch0) (q := fullShare) (f := f) rows_disjoint).2)
  rw [← h, rows_union]

/-- A load of a group's rows of the packet buffer. -/
theorem run_loadPkt {α : Type} (Q : α → sProp 𝕄) (c : Dev nD) (g : Fin 2) {off size : Fin 2 → Nat} {inb}
    (hr : 1024 * g.val ≤ off 0 ∧ off 0 + size 0 ≤ 1024 * g.val + 1024) {hl}
    {kk : ((Rect.unit (s := S2048x130) off size inb).toLoadRect.shape.Idx → Elt F .f32) → Prog (TpuEff nD τ sig (Elt F) Λ₀ .tc) α} (f) :
    (rowPts c g fullShare f : sProp 𝕄)
      ⊢ iprop((rowPts c g fullShare f -∗ Run c (kk (pM.view.readAt (Elt F) (Rect.unit (s := S2048x130) off size inb).toLoadRect f)) Q)
          -∗ Run c (.op (.load pM (Rect.unit (s := S2048x130) off size inb).toLoadRect hl) kk) Q) := by
  unfold rowPts
  refine wp_load (m := pM) 𝒱₀ (c : Thread nD τ) none Set.univ ?_
  intro i hi
  obtain ⟨x, hx, rfl⟩ := Finset.mem_map.mp hi
  have h1 := Rect.mem_set_unit.mp hx 0
  refine (mem_rowSet g _).mpr ?_
  show 1024 * g.val ≤ (x 0).val ∧ (x 0).val < 1024 * g.val + 1024
  omega

/-- A store over a group's rows of the packet buffer. -/
theorem run_storePkt {α : Type} (Q : α → sProp 𝕄) (c : Dev nD) (g : Fin 2) {off size : Fin 2 → Nat} {inb}
    (hr : 1024 * g.val ≤ off 0 ∧ off 0 + size 0 ≤ 1024 * g.val + 1024)
    {w : (Rect.unit (s := S2048x130) off size inb).shape.Idx → Elt F .f32} {hx hm}
    {kk : PUnit → Prog (TpuEff nD τ sig (Elt F) Λ₀ .tc) α} (f : (cc0_scratch0 : Ref sig .tc).ty.Contents (Elt F)) :
    (rowPts c g fullShare f : sProp 𝕄)
      ⊢ iprop((rowPts c g fullShare ((pM.access (Rect.unit (s := S2048x130) off size inb)).write (Elt F) f w Finset.univ) -∗ Run c (kk ⟨⟩) Q)
          -∗ Run c (.op (.store pM (Rect.unit (s := S2048x130) off size inb) w Finset.univ hx hm) kk) Q) := by
  unfold rowPts
  refine wp_store (m := pM) (r := Rect.unit (s := S2048x130) off size inb) (Mk := Finset.univ) (w := w) (S := rowSet g) (f := f) 𝒱₀ (c : Thread nD τ) none Set.univ ?_
  intro i hi
  have hi : i ∈ (Rect.unit (s := S2048x130) off size inb).set := by
    rw [← View.set_slice_whole cc0_scratch0 (Rect.unit (s := S2048x130) off size inb)]; exact hi
  have h1 := Rect.mem_set_unit.mp hi 0
  refine (mem_rowSet g _).mpr ?_
  omega

omit [FloatOps F] [Named F] in
/-- A unit rectangle's write, at an element of the rectangle. -/
theorem write_at (off size : Fin 2 → Nat) (inb) (f w) (i : S2048x130.Idx) (x : (Rect.unit (s := S2048x130) off size inb).shape.Idx)
    (h : ∀ a, (i a).val = off a + (x a).val) :
    (pM.access (Rect.unit (s := S2048x130) off size inb)).write (Elt F) f w Finset.univ i = w x := by
  have e : i = (pM.access (Rect.unit (s := S2048x130) off size inb)).emb x := by
    funext a
    exact Fin.ext ((h a).trans (ValueKit.view_emb_slice_whole_unit_val cc0_scratch0 off size inb x a).symm)
  rw [e]
  exact View.write_emb_of_mem _ _ (Finset.mem_univ x)
omit [FloatOps F] [Named F] in
/-- A unit rectangle's write, at an element outside the rectangle. -/
theorem write_off (off size : Fin 2 → Nat) (inb) (f w) (i : S2048x130.Idx)
    (h : ¬ (off 1 ≤ (i 1).val ∧ (i 1).val < off 1 + size 1)) :
    (pM.access (Rect.unit (s := S2048x130) off size inb)).write (Elt F) f w Finset.univ i = f i := by
  refine View.write_of_not_mem _ _ _ fun hi => h ?_
  have hi : i ∈ (Rect.unit (s := S2048x130) off size inb).set := by
    rw [← View.set_slice_whole cc0_scratch0 (Rect.unit (s := S2048x130) off size inb)]; exact hi
  exact Rect.mem_set_unit.mp hi 1

/-- The three stores of a group leave the packet's contents on its rows. -/
theorem pkt_stored (c : Dev nD) (g : Fin 2) (f : (cc0_scratch0 : Ref sig .tc).ty.Contents (Elt F)) {off1 off2 off3 inb1 inb2 inb3} (h1 : off1 = ![1024 * g.val, 0])
    (h2 : off2 = ![1024 * g.val, 128]) (h3 : off3 = ![1024 * g.val, 129]) {w1 : FVec F S1024x128 .f32} {w2 w3 : FVec F S1024x1 .f32}
    (e1 : w1 = pktO m ρ c g) (e2 : w2 = pktM m ρ c g) (e3 : w3 = pktL m ρ c g) :
    (rowPts c g fullShare ((pM.access (Rect.unit (s := S2048x130) off3 S1024x1.size inb3)).write (Elt F)
        ((pM.access (Rect.unit (s := S2048x130) off2 S1024x1.size inb2)).write (Elt F)
          ((pM.access (Rect.unit (s := S2048x130) off1 S1024x128.size inb1)).write (Elt F) f w1 Finset.univ) w2 Finset.univ) w3 Finset.univ) : sProp 𝕄)
      = rowPts c g fullShare (pktV m ρ c) := by
  unfold rowPts
  refine pointsTo_congr fun i hi => ?_
  have hi := (mem_rowSet g i).mp hi
  subst h1; subst h2; subst h3; subst e1; subst e2; subst e3
  have hj : (i 1).val < 130 := (i 1).isLt
  have hg : (⟨(i 0).val / 1024, by have h : (i 0).val < 2048 := (i 0).isLt; omega⟩ : Fin 2) = g := Fin.ext (by show (i 0).val / 1024 = g.val; omega)
  have hr : (i 0).val = 1024 * g.val + (i 0).val % 1024 := by omega
  show _ = pktAt m ρ c (i 0) (i 1)
  unfold pktAt
  by_cases hlt : (i 1).val < 128
  · rw [dif_pos hlt, write_off _ _ _ _ _ i (by show ¬ (129 ≤ _ ∧ _ ); omega), write_off _ _ _ _ _ i (by show ¬ (128 ≤ _ ∧ _ ); omega)]
    rw [hg]
    refine write_at _ _ _ _ _ i _ fun a => ?_
    fin_cases a
    · exact hr
    · exact (Nat.zero_add _).symm
  · rw [dif_neg hlt]
    by_cases he : (i 1).val = 128
    · rw [if_pos he, write_off _ _ _ _ _ i (by show ¬ (129 ≤ _ ∧ _ ); omega), hg]
      refine write_at _ _ _ _ _ i _ fun a => ?_
      fin_cases a
      · exact hr
      · exact he
    · rw [if_neg he, hg]
      refine write_at _ _ _ _ _ i _ fun a => ?_
      fin_cases a
      · exact hr
      · show (i 1).val = 129 + 0
        omega

/-! ## Whole staging buffers -/

/-- A whole staging buffer of device `c` holding `f`. -/
def stgPts (c : Dev nD) (b : Ref sig .tc) (f : b.ty.Contents (Elt F)) : sProp 𝕄 := ((c : Thread nD τ).loc b) ↦{fullShare} f

end Cert.KernelIdeal.Exchange

end
-- ==== Proof.KernelIdealParts.lean ====
/-
What each part of the body does: which pieces it takes, what it returns and what it leaves.
-/
module

public import proofs.«01_k».proof.Proof.KernelIdealBuf

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ)

/-! ## The parts, at the launch's buffers -/

abbrev B1 := k0_part1 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B2 := k0_part2 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B3 := k0_part3 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B4 := k0_part4 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B5 := k0_part5 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B6 := k0_part6 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B7 := k0_part7 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B8 := k0_part8 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B9 := k0_part9 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B10 := k0_part10 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B11 := k0_part11 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B12 := k0_part12 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B13 := k0_part13 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B14 := k0_part14 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B15 := k0_part15 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B16 := k0_part16 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4
abbrev B17 := k0_part17 (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4

/-! ## The offsets the program computes -/

theorem off1_eq (c : Dev nD) : k0_off1 c = ![c.val, 1024 * (0 : Fin 2).val, 0] := k0_off1_eq c
theorem off2_eq (c : Dev nD) : k0_off2 c = ![(0 : Fin 2).val, c.val] := k0_off2_eq c
theorem off3_eq (c : Dev nD) : k0_off3 c = ![c.val, 1024 * (1 : Fin 2).val, 0] := k0_off3_eq c
theorem off4_eq (c : Dev nD) : k0_off4 c = ![(1 : Fin 2).val, c.val] := k0_off4_eq c
theorem off5_0_eq (c : Dev nD) : k0_off5 c 1#32 = ![(0 : Fin 2).val, (peer 0 c).val] := by revert c; decide +kernel
theorem off5_1_eq (c : Dev nD) : k0_off5 c 2#32 = ![(0 : Fin 2).val, (peer 1 c).val] := by revert c; decide +kernel
theorem off5_2_eq (c : Dev nD) : k0_off5 c 3#32 = ![(0 : Fin 2).val, (peer 2 c).val] := by revert c; decide +kernel
theorem off7_0_eq (c : Dev nD) : k0_off7 c 1#32 = ![(1 : Fin 2).val, (peer 0 c).val] := by revert c; decide +kernel
theorem off7_1_eq (c : Dev nD) : k0_off7 c 2#32 = ![(1 : Fin 2).val, (peer 1 c).val] := by revert c; decide +kernel
theorem off7_2_eq (c : Dev nD) : k0_off7 c 3#32 = ![(1 : Fin 2).val, (peer 2 c).val] := by revert c; decide +kernel

omit [FloatOps F] [Named F] in
/-- The rows at the full share: the three transfers' shares and the copy's. -/
theorem rowPts_shares' (c : Dev nD) (g : Fin 2) (f) : (rowPts c g fullShare f : sProp 𝕄)
    = iprop(rowPts c g (qs (0 : Fin 3).castSucc) f ∗ rowPts c g (qs (1 : Fin 3).castSucc) f ∗ rowPts c g (qs (2 : Fin 3).castSucc) f ∗ rowPts c g (qs 3) f) :=
  rowPts_shares c g f

/-! ## Sends and waits, by what they hand over -/

/-- What the `k`-th transfer of group `g` takes: a share of the packet's rows, the peer's slot, and the two duties. -/
def sendRes (c : Dev nD) (g : Fin 2) (k : Fin 3) : sProp 𝕄 :=
  iprop(rowPts c g (qs k.castSucc) (pktV m ρ c) ∗ (∃ f, slotPts (peer k c) c g f)
    ∗ dutyTok ER (cell c (ksnd g k)) 0 0 ∗ dutyTok ER (cell (peer k c) (krcv g c)) 0 0)

/-- What a wait on a cell of one duty takes: its credit and its position. -/
def waitRes (c : Dev nD) (k : CK) : sProp 𝕄 := iprop(cred (tallyAt (cell c k) () N) ∗ atPos ER (cell c k) 0 ∅ 0)

/-- A send: the rows' share and the slot go into the copy, and the debt of the landing is paid. -/
theorem do_send {α : Type} {kk : PUnit → Prog (TpuEff nD τ sig (Elt F) Λ₀ .tc) α} (Q : α → sProp 𝕄)
    (c n : Dev nD) (k : Fin 3) (hn : n = peer k c) (g : Fin 2) {off inb off' inb' offs inbs offr inbr}
    (h : off = ![c.val, 1024 * g.val, 0]) (h' : off' = ![1024 * g.val, 0]) (hs : offs = ![g.val, k.val]) (hr : offr = ![g.val, c.val])
    {hsc} {hsrc hdst hsem} (l : List (GSem nD τ sig × ℕ)) :
    iprop(records m ρ K ∗ ow c ((cell (peer k c) (krcv g c), N) :: l) ∗ sendRes m ρ c g k)
      ⊢ iprop(((cred (tallyAt (cell c (ksnd g k)) () N) ∗ ow c l) -∗ Run c (kk ⟨⟩) Q)
          -∗ Run c (.op (.enqueueDma (rowsM off' inb') (.remote (Dev.tc n : Thread nD τ) (slotM off inb) (.dma (sndS offs inbs)) hsc)
              (.dma (rcvS offr inbr)) hsrc hdst hsem) kk) Q) :=
  run_send m ρ K Q c n k hn g h h' hs hr l

/-- A wait for a packet gives the slot with the sender's packet. -/
theorem wait_rcv {α : Type} {kk : PUnit → Prog (TpuEff nD τ sig (Elt F) Λ₀ .tc) α} (Q : α → sProp 𝕄)
    (c : Dev nD) (g : Fin 2) (k : Fin 3) {off inb off' inb' offr inbr} (hr : offr = ![g.val, (peer k c).val]) {hsrc hdst} :
    iprop(records m ρ K ∗ ow c [] ∗ waitRes c (krcv g (peer k c)))
      ⊢ iprop(((ow c [] ∗ semVal (cell c (krcv g (peer k c))) 0 ∗ slotPts c (peer k c) g (rcvV m ρ)) -∗ Run c (kk ⟨⟩) Q)
          -∗ Run c (.op (.waitDma2 (rcvS offr inbr) (rowsM off' inb') (slotM off inb) hsrc hdst) kk) Q) := by
  subst hr
  exact run_wait m ρ K Q c (krcv g (peer k c)) (dutiesK_rcv _ _ _ (peer_ne k c)) rfl rfl rfl

/-- A wait for a local copy gives the slot with this device's packet and the rows' share back. -/
theorem wait_cpy {α : Type} {kk : PUnit → Prog (TpuEff nD τ sig (Elt F) Λ₀ .tc) α} (Q : α → sProp 𝕄)
    (c : Dev nD) (g : Fin 2) {off inb off' inb' offs inbs} (hs : offs = ![g.val]) {hsrc hdst} :
    iprop(records m ρ K ∗ ow c [] ∗ waitRes c (kcpy g))
      ⊢ iprop(((ow c [] ∗ semVal (cell c (kcpy g)) 0 ∗ slotPts c c g (rcvV m ρ) ∗ rowPts c g (qs 3) (pktV m ρ c)) -∗ Run c (kk ⟨⟩) Q)
          -∗ Run c (.op (.waitDma2 (cpyS offs inbs) (rowsM off' inb') (slotM off inb) hsrc hdst) kk) Q) := by
  subst hs
  exact run_wait m ρ K Q c (kcpy g) rfl rfl rfl rfl

/-- A wait for a send gives the rows' share back. -/
theorem wait_snd {α : Type} {kk : PUnit → Prog (TpuEff nD τ sig (Elt F) Λ₀ .tc) α} (Q : α → sProp 𝕄)
    (c : Dev nD) (g : Fin 2) (k : Fin 3) {off inb off' inb' offs inbs} (hs : offs = ![g.val, k.val]) {hsrc hdst} :
    iprop(records m ρ K ∗ ow c [] ∗ waitRes c (ksnd g k))
      ⊢ iprop(((ow c [] ∗ semVal (cell c (ksnd g k)) 0 ∗ rowPts c g (qs k.castSucc) (pktV m ρ c)) -∗ Run c (kk ⟨⟩) Q)
          -∗ Run c (.op (.waitDma2 (sndS offs inbs) (slotM off inb) (rowsM off' inb') hsrc hdst) kk) Q) := by
  subst hs
  exact run_wait m ρ K Q c (ksnd g k) rfl rfl rfl rfl

/-! ## What the body reads back and computes -/

/-- The loads of a slot's outputs are in the receive buffer. -/
theorem rcvO_inb (s : Dev nD) (g : Fin 2) : ∀ a, (![s.val, 1024 * g.val, 0] : Fin 3 → Nat) a + S1x1024x128.size a ≤ S4x2048x130.size a := by
  revert s g; decide
/-- The loads of a slot's maxima are in the receive buffer. -/
theorem rcvM_inb (s : Dev nD) (g : Fin 2) : ∀ a, (![s.val, 1024 * g.val, 128] : Fin 3 → Nat) a + S1x1024x1.size a ≤ S4x2048x130.size a := by
  revert s g; decide
/-- The loads of a slot's sums are in the receive buffer. -/
theorem rcvL_inb (s : Dev nD) (g : Fin 2) : ∀ a, (![s.val, 1024 * g.val, 129] : Fin 3 → Nat) a + S1x1024x1.size a ≤ S4x2048x130.size a := by
  revert s g; decide
/-- The loads of a head's rows are in the output projection. -/
theorem wo_inb (h : Fin 8) : ∀ a, (![128 * h.val, 0] : Fin 2 → Nat) a + S128x1024.size a ≤ S1024x1024.size a := by revert h; decide

/-- Device `s`'s output rows, maxima and sums of group `g`, as read from the receive buffer. -/
def rcvO (s : Dev nD) (g : Fin 2) : Vec F S1x1024x128 .f32 :=
  rM.view.readAt (Elt F) (Rect.unit (s := S4x2048x130) ![s.val, 1024 * g.val, 0] S1x1024x128.size (rcvO_inb s g)).toLoadRect (rcvV m ρ)
/-- The maxima read from a slot. -/
def rcvM (s : Dev nD) (g : Fin 2) : Vec F S1x1024x1 .f32 :=
  rM.view.readAt (Elt F) (Rect.unit (s := S4x2048x130) ![s.val, 1024 * g.val, 128] S1x1024x1.size (rcvM_inb s g)).toLoadRect (rcvV m ρ)
/-- The sums read from a slot. -/
def rcvL (s : Dev nD) (g : Fin 2) : Vec F S1x1024x1 .f32 :=
  rM.view.readAt (Elt F) (Rect.unit (s := S4x2048x130) ![s.val, 1024 * g.val, 129] S1x1024x1.size (rcvL_inb s g)).toLoadRect (rcvV m ρ)
/-- The rows of the output projection that head `h` meets. -/
def woR (c : Dev nD) (h : Fin 8) : Vec F S128x1024 .f32 :=
  woM.view.readAt (Elt F) (Rect.unit (s := S1024x1024) ![128 * h.val, 0] S128x1024.size (wo_inb h)).toLoadRect (woV m ρ c)

/-- Group 0: the combined weights and first terms, the normalised output, the first head's product, the four heads'. -/
def a20 : FVec F S1024x1 .f32 := k0_pay20 (rcvM m ρ 2 0)
def a21 : FVec F S1024x1 .f32 := k0_pay21 (rcvM m ρ 3 0)
def a22 : FVec F S1024x1 .f32 := k0_pay22 (rcvM m ρ 0 0) (rcvM m ρ 1 0) (rcvM m ρ 2 0) (rcvM m ρ 3 0)
def a24 : FVec F S1024x128 .f32 := k0_pay24 (rcvM m ρ 0 0) (rcvM m ρ 1 0) (rcvM m ρ 2 0) (rcvM m ρ 3 0) (rcvO m ρ 0 0)
def a25 : FVec F S1024x1 .f32 := k0_pay25 (rcvM m ρ 0 0) (rcvM m ρ 1 0) (rcvM m ρ 2 0) (rcvM m ρ 3 0) (rcvL m ρ 0 0)
def a26 : FVec F S1024x1 .f32 := k0_pay26 (rcvM m ρ 0 0) (rcvM m ρ 1 0) (rcvM m ρ 2 0) (rcvM m ρ 3 0)
def a27 : FVec F S1024x128 .f32 := k0_pay27 (a20 m ρ) (a21 m ρ) (a22 m ρ) (a24 m ρ) (a25 m ρ) (a26 m ρ)
  (rcvO m ρ 1 0) (rcvL m ρ 1 0) (rcvO m ρ 2 0) (rcvL m ρ 2 0) (rcvO m ρ 3 0) (rcvL m ρ 3 0)
def a28 (c : Dev nD) : FVec F S256x1024 .f32 := k0_pay28 k0_pay17 (a20 m ρ) (a21 m ρ) (a22 m ρ) (a24 m ρ) (a25 m ρ) (a26 m ρ)
  (rcvO m ρ 1 0) (rcvL m ρ 1 0) (rcvO m ρ 2 0) (rcvL m ρ 2 0) (rcvO m ρ 3 0) (rcvL m ρ 3 0) (woR m ρ c 0)
def a29 (c : Dev nD) : FVec F S256x1024 .f32 := k0_pay29 (a27 m ρ) (a28 m ρ c) (woR m ρ c 1) (woR m ρ c 2) (woR m ρ c 3)
/-- Group 1: the same. -/
def a31 : FVec F S1024x1 .f32 := k0_pay31 (rcvM m ρ 1 1)
def a32 : FVec F S1024x1 .f32 := k0_pay32 (rcvM m ρ 2 1)
def a33 : FVec F S1024x1 .f32 := k0_pay33 (rcvM m ρ 3 1)
def a34 : FVec F S1024x1 .f32 := k0_pay34 (rcvM m ρ 0 1) (rcvM m ρ 1 1) (rcvM m ρ 2 1) (rcvM m ρ 3 1)
def a36 : FVec F S1024x1 .f32 := k0_pay36 (rcvM m ρ 0 1) (rcvM m ρ 1 1) (rcvM m ρ 2 1) (rcvM m ρ 3 1)
def a37 : FVec F S1024x128 .f32 := k0_pay37 (rcvM m ρ 0 1) (rcvM m ρ 1 1) (rcvM m ρ 2 1) (rcvM m ρ 3 1) (rcvO m ρ 0 1)
def a38 : FVec F S1024x128 .f32 := k0_pay38 (a31 m ρ) (a32 m ρ) (a33 m ρ) (a34 m ρ) k0_pay35 (a36 m ρ) (a37 m ρ)
  (rcvL m ρ 0 1) (rcvO m ρ 1 1) (rcvL m ρ 1 1) (rcvO m ρ 2 1) (rcvL m ρ 2 1) (rcvO m ρ 3 1) (rcvL m ρ 3 1)
def a39 : FVec F S256x128 .f32 := k0_pay39 (a31 m ρ) (a32 m ρ) (a33 m ρ) (a34 m ρ) k0_pay35 (a36 m ρ) (a37 m ρ)
  (rcvL m ρ 0 1) (rcvO m ρ 1 1) (rcvL m ρ 1 1) (rcvO m ρ 2 1) (rcvL m ρ 2 1) (rcvO m ρ 3 1) (rcvL m ρ 3 1)
/-- What device `c` stores as the result. -/
def outAt (c : Dev nD) : (cc0_stg5_0 : Ref sig .tc).ty.Contents (Elt F) :=
  k0_pay40 (a29 m ρ c) (a38 m ρ) (a39 m ρ) (woR m ρ c 4) (woR m ρ c 5) (woR m ρ c 6) (woR m ρ c 7)

/-- A load of device `s`'s output rows of group `g`. -/
theorem run_loadO {α : Type} (Q : α → sProp 𝕄) (c s : Dev nD) (g : Fin 2) {off : Fin 3 → Nat} {inb} (ho : off = ![s.val, 1024 * g.val, 0]) {hl}
    {kk : (S1x1024x128.Idx → Elt F .f32) → Prog (TpuEff nD τ sig (Elt F) Λ₀ .tc) α} :
    (grpPts c g (rcvV m ρ) : sProp 𝕄)
      ⊢ iprop((grpPts c g (rcvV m ρ) -∗ Run c (kk (rcvO m ρ s g)) Q)
          -∗ Run c (.op (.load rM (Rect.unit (s := S4x2048x130) off S1x1024x128.size inb).toLoadRect hl) kk) Q) := by
  subst ho
  exact run_loadGrp m ρ Q c g (off := ![s.val, 1024 * g.val, 0]) (size := S1x1024x128.size) ⟨le_refl _, le_refl _⟩
/-- A load of device `s`'s maxima of group `g`. -/
theorem run_loadM {α : Type} (Q : α → sProp 𝕄) (c s : Dev nD) (g : Fin 2) {off : Fin 3 → Nat} {inb} (ho : off = ![s.val, 1024 * g.val, 128]) {hl}
    {kk : (S1x1024x1.Idx → Elt F .f32) → Prog (TpuEff nD τ sig (Elt F) Λ₀ .tc) α} :
    (grpPts c g (rcvV m ρ) : sProp 𝕄)
      ⊢ iprop((grpPts c g (rcvV m ρ) -∗ Run c (kk (rcvM m ρ s g)) Q)
          -∗ Run c (.op (.load rM (Rect.unit (s := S4x2048x130) off S1x1024x1.size inb).toLoadRect hl) kk) Q) := by
  subst ho
  exact run_loadGrp m ρ Q c g (off := ![s.val, 1024 * g.val, 128]) (size := S1x1024x1.size) ⟨le_refl _, le_refl _⟩
/-- A load of device `s`'s sums of group `g`. -/
theorem run_loadL {α : Type} (Q : α → sProp 𝕄) (c s : Dev nD) (g : Fin 2) {off : Fin 3 → Nat} {inb} (ho : off = ![s.val, 1024 * g.val, 129]) {hl}
    {kk : (S1x1024x1.Idx → Elt F .f32) → Prog (TpuEff nD τ sig (Elt F) Λ₀ .tc) α} :
    (grpPts c g (rcvV m ρ) : sProp 𝕄)
      ⊢ iprop((grpPts c g (rcvV m ρ) -∗ Run c (kk (rcvL m ρ s g)) Q)
          -∗ Run c (.op (.load rM (Rect.unit (s := S4x2048x130) off S1x1024x1.size inb).toLoadRect hl) kk) Q) := by
  subst ho
  exact run_loadGrp m ρ Q c g (off := ![s.val, 1024 * g.val, 129]) (size := S1x1024x1.size) ⟨le_refl _, le_refl _⟩
/-- A load of the input rows. -/
theorem run_loadX {α : Type} (Q : α → sProp 𝕄) (c : Dev nD) {inb} {hl}
    {kk : (S1x256x1024.Idx → Elt F .f32) → Prog (TpuEff nD τ sig (Elt F) Λ₀ .tc) α} :
    (stgPts c cc0_stg0_0 (xV m ρ c) : sProp 𝕄)
      ⊢ iprop((stgPts c cc0_stg0_0 (xV m ρ c) -∗ Run c (kk (ldX m ρ c)) Q)
          -∗ Run c (.op (.load xM (Rect.unit (s := S1x256x1024) ![0, 0, 0] S1x256x1024.size inb).toLoadRect hl) kk) Q) :=
  wp_load (m := xM) 𝒱₀ (c : Thread nD τ) none Set.univ (Finset.subset_univ _)
/-- A load of the query projection. -/
theorem run_loadWq {α : Type} (Q : α → sProp 𝕄) (c : Dev nD) {inb} {hl}
    {kk : (S1024x1024.Idx → Elt F .f32) → Prog (TpuEff nD τ sig (Elt F) Λ₀ .tc) α} :
    (stgPts c cc0_stg1_0 (wqV m ρ c) : sProp 𝕄)
      ⊢ iprop((stgPts c cc0_stg1_0 (wqV m ρ c) -∗ Run c (kk (ldWq m ρ c)) Q)
          -∗ Run c (.op (.load wqM (Rect.unit (s := S1024x1024) ![0, 0] S1024x1024.size inb).toLoadRect hl) kk) Q) :=
  wp_load (m := wqM) 𝒱₀ (c : Thread nD τ) none Set.univ (Finset.subset_univ _)
/-- A load of group 0's keys. -/
theorem run_loadK0 {α : Type} (Q : α → sProp 𝕄) (c : Dev nD) {inb} {hl}
    {kk : (S1x4096x1x128.Idx → Elt F .f32) → Prog (TpuEff nD τ sig (Elt F) Λ₀ .tc) α} :
    (stgPts c cc0_stg3_0 (kV m ρ c) : sProp 𝕄)
      ⊢ iprop((stgPts c cc0_stg3_0 (kV m ρ c) -∗ Run c (kk (ldK0 m ρ c)) Q)
          -∗ Run c (.op (.load kM (Rect.unit (s := S1x4096x2x128) ![0, 0, 0, 0] S1x4096x1x128.size inb).toLoadRect hl) kk) Q) :=
  wp_load (m := kM) 𝒱₀ (c : Thread nD τ) none Set.univ (Finset.subset_univ _)
/-- A load of group 0's values. -/
theorem run_loadV0 {α : Type} (Q : α → sProp 𝕄) (c : Dev nD) {inb} {hl}
    {kk : (S1x4096x1x128.Idx → Elt F .f32) → Prog (TpuEff nD τ sig (Elt F) Λ₀ .tc) α} :
    (stgPts c cc0_stg4_0 (vV m ρ c) : sProp 𝕄)
      ⊢ iprop((stgPts c cc0_stg4_0 (vV m ρ c) -∗ Run c (kk (ldV0 m ρ c)) Q)
          -∗ Run c (.op (.load vM (Rect.unit (s := S1x4096x2x128) ![0, 0, 0, 0] S1x4096x1x128.size inb).toLoadRect hl) kk) Q) :=
  wp_load (m := vM) 𝒱₀ (c : Thread nD τ) none Set.univ (Finset.subset_univ _)
/-- A load of group 1's keys. -/
theorem run_loadK1 {α : Type} (Q : α → sProp 𝕄) (c : Dev nD) {inb} {hl}
    {kk : (S1x4096x1x128.Idx → Elt F .f32) → Prog (TpuEff nD τ sig (Elt F) Λ₀ .tc) α} :
    (stgPts c cc0_stg3_0 (kV m ρ c) : sProp 𝕄)
      ⊢ iprop((stgPts c cc0_stg3_0 (kV m ρ c) -∗ Run c (kk (ldK1 m ρ c)) Q)
          -∗ Run c (.op (.load kM (Rect.unit (s := S1x4096x2x128) ![0, 0, 1, 0] S1x4096x1x128.size inb).toLoadRect hl) kk) Q) :=
  wp_load (m := kM) 𝒱₀ (c : Thread nD τ) none Set.univ (Finset.subset_univ _)
/-- A load of group 1's values. -/
theorem run_loadV1 {α : Type} (Q : α → sProp 𝕄) (c : Dev nD) {inb} {hl}
    {kk : (S1x4096x1x128.Idx → Elt F .f32) → Prog (TpuEff nD τ sig (Elt F) Λ₀ .tc) α} :
    (stgPts c cc0_stg4_0 (vV m ρ c) : sProp 𝕄)
      ⊢ iprop((stgPts c cc0_stg4_0 (vV m ρ c) -∗ Run c (kk (ldV1 m ρ c)) Q)
          -∗ Run c (.op (.load vM (Rect.unit (s := S1x4096x2x128) ![0, 0, 1, 0] S1x4096x1x128.size inb).toLoadRect hl) kk) Q) :=
  wp_load (m := vM) 𝒱₀ (c : Thread nD τ) none Set.univ (Finset.subset_univ _)
/-- A load of one head's rows of the output projection. -/
theorem run_loadWo {α : Type} (Q : α → sProp 𝕄) (c : Dev nD) (h : Fin 8) {off : Fin 2 → Nat} {inb} (ho : off = ![128 * h.val, 0]) {hl}
    {kk : (S128x1024.Idx → Elt F .f32) → Prog (TpuEff nD τ sig (Elt F) Λ₀ .tc) α} :
    (stgPts c cc0_stg2_0 (woV m ρ c) : sProp 𝕄)
      ⊢ iprop((stgPts c cc0_stg2_0 (woV m ρ c) -∗ Run c (kk (woR m ρ c h)) Q)
          -∗ Run c (.op (.load woM (Rect.unit (s := S1024x1024) off S128x1024.size inb).toLoadRect hl) kk) Q) := by
  subst ho
  exact wp_load (m := woM) 𝒱₀ (c : Thread nD τ) none Set.univ (Finset.subset_univ _)

omit [FloatOps F] [Named F] in
/-- Three zero offsets. -/
theorem hz3 : (![0, 0, 0] : Fin 3 → Nat) = fun _ => 0 := funext fun a => by fin_cases a <;> rfl
omit [FloatOps F] [Named F] in
/-- The store of the whole result. -/
theorem write_out (f w : (cc0_stg5_0 : Ref sig .tc).ty.Contents (Elt F)) :
    (oM.access (Rect.unit (s := S1x256x1024) ![0, 0, 0] S1x256x1024.size inb_S1x256x1024_S1x256x1024_0_0_0)).write (Elt F) f w Finset.univ = w :=
  Memref.write_access_unit_zero_univ (Elt F) cc0_stg5_0 hz3 _ f w
/-- A load of the result's block, whose value is not used. -/
theorem run_loadOut {α : Type} (Q : α → sProp 𝕄) (c : Dev nD) (f : (cc0_stg5_0 : Ref sig .tc).ty.Contents (Elt F)) {r : LoadRect S1x256x1024} {hl}
    {kk : (r.shape.Idx → Elt F .f32) → Prog (TpuEff nD τ sig (Elt F) Λ₀ .tc) α} :
    (stgPts c cc0_stg5_0 f : sProp 𝕄)
      ⊢ iprop((stgPts c cc0_stg5_0 f -∗ Run c (kk (oM.view.readAt (Elt F) r f)) Q) -∗ Run c (.op (.load oM r hl) kk) Q) :=
  wp_load (m := oM) 𝒱₀ (c : Thread nD τ) none Set.univ (Finset.subset_univ _)
/-- The store of the result's block. -/
theorem run_storeOut {α : Type} {kk : PUnit → Prog (TpuEff nD τ sig (Elt F) Λ₀ .tc) α} (Q : α → sProp 𝕄) (c : Dev nD)
    (f w : (cc0_stg5_0 : Ref sig .tc).ty.Contents (Elt F)) {hx hm} :
    (stgPts c cc0_stg5_0 f : sProp 𝕄)
      ⊢ iprop((stgPts c cc0_stg5_0 w -∗ Run c (kk ⟨⟩) Q)
          -∗ Run c (.op (.store oM (Rect.unit (s := S1x256x1024) ![0, 0, 0] S1x256x1024.size inb_S1x256x1024_S1x256x1024_0_0_0) w Finset.univ hx hm) kk) Q) := by
  have h : (stgPts c cc0_stg5_0 f : sProp 𝕄)
      ⊢ iprop((stgPts c cc0_stg5_0 ((oM.access (Rect.unit (s := S1x256x1024) ![0, 0, 0] S1x256x1024.size inb_S1x256x1024_S1x256x1024_0_0_0)).write (Elt F) f w Finset.univ)
            -∗ Run c (kk ⟨⟩) Q)
          -∗ Run c (.op (.store oM (Rect.unit (s := S1x256x1024) ![0, 0, 0] S1x256x1024.size inb_S1x256x1024_S1x256x1024_0_0_0) w Finset.univ hx hm) kk) Q) :=
    wp_store (m := oM) (r := Rect.unit (s := S1x256x1024) ![0, 0, 0] S1x256x1024.size inb_S1x256x1024_S1x256x1024_0_0_0) (Mk := Finset.univ) (w := w) (f := f)
      (S := Finset.univ) 𝒱₀ (c : Thread nD τ) none Set.univ (Finset.subset_univ _)
  rw [write_out] at h
  exact h
/-- A finished part. -/
theorem run_ret {α : Type} (Q : α → sProp 𝕄) (c : Dev nD) (a : α) : Q a ⊢ Run c (.ret a) Q := by
  unfold Run
  rw [wp_ret]
  iintro H
  imodintro
  iexact H

/-! ## The parts -/

/-- Part 1: the first two signals. -/
theorem part1 (Q : _ → sProp 𝕄) (c : Dev nD) :
    iprop(records m ρ K ∗ ow c (oweAll c) ∗ (dutyTok ER (cell (peer 0 c) kbar) 0 0 ∗ (∃ f, slotPts c (peer 0 c) 0 f) ∗ (∃ f, slotPts c (peer 0 c) 1 f)) ∗ (dutyTok ER (cell (peer 1 c) kbar) 0 1 ∗ (∃ f, slotPts c (peer 1 c) 0 f) ∗ (∃ f, slotPts c (peer 1 c) 1 f)))
      ⊢ iprop((∀ v2 v30 c4 v31, (ow c ((cell (peer 2 c) kbar, 1) :: oweRcv c)) -∗ Q ⟨c, v2, SemArray.scalar (sig.barrier 0 rfl), v30, c4, v31⟩) -∗ Run c (B1) Q) := by
  simp only [B1, k0_part1_eq_skeleton]; unfold k0_part1_skel
  simp only [semSignalWord, semWaitWord, Prog.lift, Prog.bind_op, Prog.bind_ret, Prog.pure_eq_ret, wp_deviceId]
  iintro ⟨#HR, HO, ⟨Ht0, Ha0, Hb0⟩, ⟨Ht1, Ha1, Hb1⟩⟩ Hk
  unfold oweAll
  iapply (run_signal m ρ K _ c _ 0 (dev1_eq c) ((cell (peer 1 c) kbar, 1) :: (cell (peer 2 c) kbar, 1) :: oweRcv c)) $$ [HO Ht0 Ha0 Hb0]
  · isplitr; · iexact HR
    isplitl [HO]; · iexact HO
    isplitl [Ht0]; · iexact Ht0
    isplitl [Ha0] <;> iassumption
  iintro HO
  iapply (run_signal m ρ K _ c _ 1 (dev2_eq c) ((cell (peer 2 c) kbar, 1) :: oweRcv c)) $$ [HO Ht1 Ha1 Hb1]
  · isplitr; · iexact HR
    isplitl [HO]; · iexact HO
    isplitl [Ht1]; · iexact Ht1
    isplitl [Ha1] <;> iassumption
  iintro HO
  iapply (run_ret Q c _)
  iapply Hk
  iexact HO

/-- Part 2: the last signal, the wait for the peers, and the first loads: the queries, and the scores of group 0. -/
theorem part2 (Q : _ → sProp 𝕄) (c : Dev nD) (v30 c4 : BitVec 32) (v31 : BitVec 1) :
    iprop(records m ρ K ∗ levAts L lv ∗ ow c ((cell (peer 2 c) kbar, 1) :: oweRcv c) ∗ (dutyTok ER (cell (peer 2 c) kbar) 0 2 ∗ (∃ f, slotPts c (peer 2 c) 0 f) ∗ (∃ f, slotPts c (peer 2 c) 1 f)) ∗ cred (tallyAt (cell c kbar) () 3) ∗ atPos ER (cell c kbar) 0 ∅ 0 ∗ stgPts c cc0_stg0_0 (xV m ρ c) ∗ stgPts c cc0_stg1_0 (wqV m ρ c) ∗ stgPts c cc0_stg3_0 (kV m ρ c) ∗ stgPts c cc0_stg4_0 (vV m ρ c))
      ⊢ iprop(((ow c (oweRcv c) ∗ semVal (cell c kbar) 0 ∗ (payK m ρ c kbar 0 ∗ payK m ρ c kbar 1 ∗ payK m ρ c kbar 2) ∗ stgPts c cc0_stg0_0 (xV m ρ c) ∗ stgPts c cc0_stg1_0 (wqV m ρ c) ∗ stgPts c cc0_stg3_0 (kV m ρ c) ∗ stgPts c cc0_stg4_0 (vV m ρ c)) -∗ Q ⟨qV m ρ c, k0_pay2 (ldV0 m ρ c), k0_pay4 (ldX m ρ c) (ldWq m ρ c) (ldK0 m ρ c), k0_pay5 (ldX m ρ c) (ldWq m ρ c) (ldK0 m ρ c)⟩) -∗ Run c (B2 c (SemArray.scalar (sig.barrier 0 rfl)) v30 c4 v31) Q) := by
  simp only [B2, k0_part2_eq_skeleton]; unfold k0_part2_skel
  simp only [semSignalWord, semWaitWord, Prog.lift, Prog.bind_op, Prog.bind_ret, Prog.pure_eq_ret, wp_deviceId]
  iintro ⟨#HR, #HL, HO, ⟨Ht2, Ha2, Hb2⟩, Hc, Hat, Hx, Hw, Hkk, Hv⟩ Hk
  iapply (run_signal m ρ K _ c _ 2 (dev3_eq c) (oweRcv c)) $$ [HO Ht2 Ha2 Hb2]
  · isplitr; · iexact HR
    isplitl [HO]; · iexact HO
    isplitl [Ht2]; · iexact Ht2
    isplitl [Ha2] <;> iassumption
  iintro HO
  iapply (run_barrier m ρ K _ c) $$ [HO Hc Hat]
  · isplitr; · iexact HR
    isplitr; · iexact HL
    isplitl [HO]; · iexact HO
    isplitl [Hc] <;> iassumption
  iintro ⟨HO, Hz, Hp⟩
  iapply (run_loadX m ρ _ c) $$ Hx; iintro Hx
  iapply (run_loadWq m ρ _ c) $$ Hw; iintro Hw
  iapply (run_loadK0 m ρ _ c) $$ Hkk; iintro Hkk
  iapply (run_loadV0 m ρ _ c) $$ Hv; iintro Hv
  unfold qV
  iapply (run_ret Q c _)
  iapply Hk
  isplitl [HO]; · iexact HO
  isplitl [Hz]; · iexact Hz
  isplitl [Hp]; · iexact Hp
  isplitl [Hx]; · iexact Hx
  isplitl [Hw]; · iexact Hw
  isplitl [Hkk] <;> iassumption

/-- Part 3: group 0's packet stored, and its local copy started. -/
theorem part3 (Q : _ → sProp 𝕄) (c : Dev nD) (v2 : BitVec 32) (f : (cc0_scratch0 : Ref sig .tc).ty.Contents (Elt F)) :
    iprop(records m ρ K ∗ rowPts c 0 fullShare f ∗ (∃ f, slotPts c c 0 f) ∗ dutyTok ER (cell c (kcpy 0)) 0 0)
      ⊢ iprop(((cred (tallyAt (cell c (kcpy 0)) () N) ∗ rowPts c 0 (qs (0 : Fin 3).castSucc) (pktV m ρ c) ∗ rowPts c 0 (qs (1 : Fin 3).castSucc) (pktV m ρ c) ∗ rowPts c 0 (qs (2 : Fin 3).castSucc) (pktV m ρ c)) -∗ Q ⟨⟩) -∗ Run c (B3 c v2 (k0_pay2 (ldV0 m ρ c)) (k0_pay4 (ldX m ρ c) (ldWq m ρ c) (ldK0 m ρ c)) (k0_pay5 (ldX m ρ c) (ldWq m ρ c) (ldK0 m ρ c))) Q) := by
  simp only [B3, k0_part3_eq_skeleton]; unfold k0_part3_skel
  simp only [semSignalWord, semWaitWord, Prog.lift, Prog.bind_op, Prog.bind_ret, Prog.pure_eq_ret, wp_deviceId]
  iintro ⟨#HR, Hp, Hs, Ht⟩ Hk
  iapply (run_loadPkt _ c 0 (off := ![0, 0]) (size := S1024x128.size) (by decide) _) $$ Hp; iintro Hp
  iapply (run_storePkt _ c 0 (off := ![0, 0]) (size := S1024x128.size) (by decide) _) $$ Hp; iintro Hp
  iapply (run_loadPkt _ c 0 (off := ![0, 128]) (size := S1024x1.size) (by decide) _) $$ Hp; iintro Hp
  iapply (run_storePkt _ c 0 (off := ![0, 128]) (size := S1024x1.size) (by decide) _) $$ Hp; iintro Hp
  iapply (run_loadPkt _ c 0 (off := ![0, 129]) (size := S1024x1.size) (by decide) _) $$ Hp; iintro Hp
  iapply (run_storePkt _ c 0 (off := ![0, 129]) (size := S1024x1.size) (by decide) _) $$ Hp; iintro Hp
  ihave Hp := (Entails.of_eq ((pkt_stored m ρ c 0 _ (off1 := ![0, 0]) (off2 := ![0, 128]) (off3 := ![0, 129]) rfl rfl rfl (if_pos rfl).symm (if_pos rfl).symm (if_pos rfl).symm).trans (rowPts_shares' c 0 (pktV m ρ c)))) $$ Hp
  icases Hp with ⟨H0, H1, H2, H3⟩
  iapply (run_copy m ρ K _ c 0 (off1_eq c) rfl rfl) $$ [H3 Hs Ht]
  · isplitr; · iexact HR
    isplitl [H3]; · iexact H3
    isplitl [Hs] <;> iassumption
  iintro Hc
  iapply (run_ret Q c _)
  iapply Hk
  isplitl [Hc]; · iexact Hc
  isplitl [H0]; · iexact H0
  isplitl [H1] <;> iassumption

/-- Part 4: the first two transfers of group 0. -/
theorem part4 (Q : _ → sProp 𝕄) (c : Dev nD) (v2 : BitVec 32) :
    iprop(records m ρ K ∗ ow c (oweRcv c) ∗ sendRes m ρ c 0 0 ∗ sendRes m ρ c 0 1)
      ⊢ iprop((∀ v123 v124 v125 v126, (cred (tallyAt (cell c (ksnd 0 0)) () N) ∗ cred (tallyAt (cell c (ksnd 0 1)) () N) ∗ ow c [(cell (peer 2 c) (krcv 0 c), N), (cell (peer 0 c) (krcv 1 c), N), (cell (peer 1 c) (krcv 1 c), N), (cell (peer 2 c) (krcv 1 c), N)]) -∗ Q ⟨v123, v124, v125, v126⟩) -∗ Run c (B4 c v2) Q) := by
  simp only [B4, k0_part4_eq_skeleton]; unfold k0_part4_skel
  simp only [semSignalWord, semWaitWord, Prog.lift, Prog.bind_op, Prog.bind_ret, Prog.pure_eq_ret, wp_deviceId]
  iintro ⟨#HR, HO, S0, S1⟩ Hk
  unfold oweRcv
  iapply (do_send m ρ K _ c _ 0 (dev4_eq c) 0 (off1_eq c) rfl rfl (off2_eq c) [(cell (peer 1 c) (krcv 0 c), N), (cell (peer 2 c) (krcv 0 c), N), (cell (peer 0 c) (krcv 1 c), N), (cell (peer 1 c) (krcv 1 c), N), (cell (peer 2 c) (krcv 1 c), N)]) $$ [HO S0]
  · isplitr; · iexact HR
    isplitl [HO] <;> iassumption
  iintro ⟨C0, HO⟩
  iapply (do_send m ρ K _ c _ 1 (dev5_eq c) 0 (off1_eq c) rfl rfl (off2_eq c) [(cell (peer 2 c) (krcv 0 c), N), (cell (peer 0 c) (krcv 1 c), N), (cell (peer 1 c) (krcv 1 c), N), (cell (peer 2 c) (krcv 1 c), N)]) $$ [HO S1]
  · isplitr; · iexact HR
    isplitl [HO] <;> iassumption
  iintro ⟨C1, HO⟩
  iapply (run_ret Q c _)
  iapply Hk
  isplitl [C0]; · iexact C0
  isplitl [C1] <;> iassumption

/-- Part 5: the last transfer of group 0, and the scores of group 1. -/
theorem part5 (Q : _ → sProp 𝕄) (c : Dev nD) (v123 v124 : BitVec 32) (v125 v126 : BitVec 1) (f : (cc0_scratch0 : Ref sig .tc).ty.Contents (Elt F)) :
    iprop(records m ρ K ∗ ow c [(cell (peer 2 c) (krcv 0 c), N), (cell (peer 0 c) (krcv 1 c), N), (cell (peer 1 c) (krcv 1 c), N), (cell (peer 2 c) (krcv 1 c), N)] ∗ sendRes m ρ c 0 2 ∗ stgPts c cc0_stg3_0 (kV m ρ c) ∗ stgPts c cc0_stg4_0 (vV m ρ c) ∗ rowPts c 1 fullShare f)
      ⊢ iprop((∀ v160, (cred (tallyAt (cell c (ksnd 0 2)) () N) ∗ ow c [(cell (peer 0 c) (krcv 1 c), N), (cell (peer 1 c) (krcv 1 c), N), (cell (peer 2 c) (krcv 1 c), N)] ∗ stgPts c cc0_stg3_0 (kV m ρ c) ∗ stgPts c cc0_stg4_0 (vV m ρ c) ∗ rowPts c 1 fullShare f) -∗ Q ⟨k0_pay10 (qV m ρ c) (ldK1 m ρ c), k0_pay12 (qV m ρ c) (ldK1 m ρ c), k0_pay13 (qV m ρ c) (ldK1 m ρ c) (ldV1 m ρ c), v160⟩) -∗ Run c (B5 c (qV m ρ c) v123 v124 v125 v126) Q) := by
  simp only [B5, k0_part5_eq_skeleton]; unfold k0_part5_skel
  simp only [semSignalWord, semWaitWord, Prog.lift, Prog.bind_op, Prog.bind_ret, Prog.pure_eq_ret, wp_deviceId]
  iintro ⟨#HR, HO, S2, Hkk, Hv, Hp⟩ Hk
  iapply (do_send m ρ K _ c _ 2 (dev6_eq c) 0 (off1_eq c) rfl rfl (off2_eq c) [(cell (peer 0 c) (krcv 1 c), N), (cell (peer 1 c) (krcv 1 c), N), (cell (peer 2 c) (krcv 1 c), N)]) $$ [HO S2]
  · isplitr; · iexact HR
    isplitl [HO] <;> iassumption
  iintro ⟨C2, HO⟩
  iapply (run_loadK1 m ρ _ c) $$ Hkk; iintro Hkk
  iapply (run_loadV1 m ρ _ c) $$ Hv; iintro Hv
  iapply (run_loadPkt _ c 1 (off := ![1024, 0]) (size := S1024x128.size) (by decide) _) $$ Hp; iintro Hp
  iapply (run_ret Q c _)
  iapply Hk
  isplitl [C2]; · iexact C2
  isplitl [HO]; · iexact HO
  isplitl [Hkk]; · iexact Hkk
  isplitl [Hv] <;> iassumption

/-- Part 6: group 1's packet stored, and its local copy started. -/
theorem part6 (Q : _ → sProp 𝕄) (c : Dev nD) (v2 : BitVec 32) (v160 : Vec F S1024x128 .f32) (f : (cc0_scratch0 : Ref sig .tc).ty.Contents (Elt F)) :
    iprop(records m ρ K ∗ rowPts c 1 fullShare f ∗ (∃ f, slotPts c c 1 f) ∗ dutyTok ER (cell c (kcpy 1)) 0 0)
      ⊢ iprop(((cred (tallyAt (cell c (kcpy 1)) () N) ∗ rowPts c 1 (qs (0 : Fin 3).castSucc) (pktV m ρ c) ∗ rowPts c 1 (qs (1 : Fin 3).castSucc) (pktV m ρ c) ∗ rowPts c 1 (qs (2 : Fin 3).castSucc) (pktV m ρ c)) -∗ Q ⟨⟩) -∗ Run c (B6 c v2 (k0_pay10 (qV m ρ c) (ldK1 m ρ c)) (k0_pay12 (qV m ρ c) (ldK1 m ρ c)) (k0_pay13 (qV m ρ c) (ldK1 m ρ c) (ldV1 m ρ c)) v160) Q) := by
  simp only [B6, k0_part6_eq_skeleton]; unfold k0_part6_skel
  simp only [semSignalWord, semWaitWord, Prog.lift, Prog.bind_op, Prog.bind_ret, Prog.pure_eq_ret, wp_deviceId]
  iintro ⟨#HR, Hp, Hs, Ht⟩ Hk
  iapply (run_storePkt _ c 1 (off := ![1024, 0]) (size := S1024x128.size) (by decide) _) $$ Hp; iintro Hp
  iapply (run_loadPkt _ c 1 (off := ![1024, 128]) (size := S1024x1.size) (by decide) _) $$ Hp; iintro Hp
  iapply (run_storePkt _ c 1 (off := ![1024, 128]) (size := S1024x1.size) (by decide) _) $$ Hp; iintro Hp
  iapply (run_loadPkt _ c 1 (off := ![1024, 129]) (size := S1024x1.size) (by decide) _) $$ Hp; iintro Hp
  iapply (run_storePkt _ c 1 (off := ![1024, 129]) (size := S1024x1.size) (by decide) _) $$ Hp; iintro Hp
  ihave Hp := (Entails.of_eq ((pkt_stored m ρ c 1 _ (off1 := ![1024, 0]) (off2 := ![1024, 128]) (off3 := ![1024, 129]) rfl rfl rfl (if_neg (by decide)).symm (if_neg (by decide)).symm (if_neg (by decide)).symm).trans (rowPts_shares' c 1 (pktV m ρ c)))) $$ Hp
  icases Hp with ⟨H0, H1, H2, H3⟩
  iapply (run_copy m ρ K _ c 1 (off3_eq c) rfl rfl) $$ [H3 Hs Ht]
  · isplitr; · iexact HR
    isplitl [H3]; · iexact H3
    isplitl [Hs] <;> iassumption
  iintro Hc
  iapply (run_ret Q c _)
  iapply Hk
  isplitl [Hc]; · iexact Hc
  isplitl [H0]; · iexact H0
  isplitl [H1] <;> iassumption

/-- Part 7: the first two transfers of group 1. -/
theorem part7 (Q : _ → sProp 𝕄) (c : Dev nD) (v2 : BitVec 32) :
    iprop(records m ρ K ∗ ow c [(cell (peer 0 c) (krcv 1 c), N), (cell (peer 1 c) (krcv 1 c), N), (cell (peer 2 c) (krcv 1 c), N)] ∗ sendRes m ρ c 1 0 ∗ sendRes m ρ c 1 1)
      ⊢ iprop((∀ v224, (cred (tallyAt (cell c (ksnd 1 0)) () N) ∗ cred (tallyAt (cell c (ksnd 1 1)) () N) ∗ ow c [(cell (peer 2 c) (krcv 1 c), N)]) -∗ Q v224) -∗ Run c (B7 c v2) Q) := by
  simp only [B7, k0_part7_eq_skeleton]; unfold k0_part7_skel
  simp only [semSignalWord, semWaitWord, Prog.lift, Prog.bind_op, Prog.bind_ret, Prog.pure_eq_ret, wp_deviceId]
  iintro ⟨#HR, HO, S0, S1⟩ Hk
  iapply (do_send m ρ K _ c _ 0 (dev7_eq c) 1 (off3_eq c) rfl rfl (off4_eq c) [(cell (peer 1 c) (krcv 1 c), N), (cell (peer 2 c) (krcv 1 c), N)]) $$ [HO S0]
  · isplitr; · iexact HR
    isplitl [HO] <;> iassumption
  iintro ⟨C0, HO⟩
  iapply (do_send m ρ K _ c _ 1 (dev8_eq c) 1 (off3_eq c) rfl rfl (off4_eq c) [(cell (peer 2 c) (krcv 1 c), N)]) $$ [HO S1]
  · isplitr; · iexact HR
    isplitl [HO] <;> iassumption
  iintro ⟨C1, HO⟩
  iapply (run_ret Q c _)
  iapply Hk
  isplitl [C0]; · iexact C0
  isplitl [C1] <;> iassumption

/-- Part 8: the last transfer of group 1, and the wait for group 0's local copy. -/
theorem part8 (Q : _ → sProp 𝕄) (c : Dev nD) (v2 v224 : BitVec 32) :
    iprop(records m ρ K ∗ ow c [(cell (peer 2 c) (krcv 1 c), N)] ∗ sendRes m ρ c 1 2 ∗ waitRes c (kcpy 0))
      ⊢ iprop(((cred (tallyAt (cell c (ksnd 1 2)) () N) ∗ ow c [] ∗ semVal (cell c (kcpy 0)) 0 ∗ slotPts c c 0 (rcvV m ρ) ∗ rowPts c 0 (qs 3) (pktV m ρ c)) -∗ Q k0_pay17) -∗ Run c (B8 c v2 v224) Q) := by
  simp only [B8, k0_part8_eq_skeleton]; unfold k0_part8_skel
  simp only [semSignalWord, semWaitWord, Prog.lift, Prog.bind_op, Prog.bind_ret, Prog.pure_eq_ret, wp_deviceId]
  iintro ⟨#HR, HO, S2, W⟩ Hk
  iapply (do_send m ρ K _ c _ 2 (dev9_eq c) 1 (off3_eq c) rfl rfl (off4_eq c) []) $$ [HO S2]
  · isplitr; · iexact HR
    isplitl [HO] <;> iassumption
  iintro ⟨C2, HO⟩
  iapply (wait_cpy m ρ K _ c 0 rfl) $$ [HO W]
  · isplitr; · iexact HR
    isplitl [HO] <;> iassumption
  iintro ⟨HO, Hz, Hs, Hp⟩
  iapply (run_ret Q c _)
  iapply Hk
  isplitl [C2]; · iexact C2
  isplitl [HO]; · iexact HO
  isplitl [Hz]; · iexact Hz
  isplitl [Hs] <;> iassumption

/-- Part 9: the waits for group 0's first two landings. -/
theorem part9 (Q : _ → sProp 𝕄) (c : Dev nD) (v2 : BitVec 32) :
    iprop(records m ρ K ∗ ow c [] ∗ waitRes c (krcv 0 (peer 0 c)) ∗ waitRes c (krcv 0 (peer 1 c)))
      ⊢ iprop((∀ v286, (ow c [] ∗ semVal (cell c (krcv 0 (peer 0 c))) 0 ∗ slotPts c (peer 0 c) 0 (rcvV m ρ) ∗ semVal (cell c (krcv 0 (peer 1 c))) 0 ∗ slotPts c (peer 1 c) 0 (rcvV m ρ)) -∗ Q v286) -∗ Run c (B9 c v2) Q) := by
  simp only [B9, k0_part9_eq_skeleton]; unfold k0_part9_skel
  simp only [semSignalWord, semWaitWord, Prog.lift, Prog.bind_op, Prog.bind_ret, Prog.pure_eq_ret, wp_deviceId]
  iintro ⟨#HR, HO, W0, W1⟩ Hk
  iapply (wait_rcv m ρ K _ c 0 0 (off5_0_eq c)) $$ [HO W0]
  · isplitr; · iexact HR
    isplitl [HO] <;> iassumption
  iintro ⟨HO, Z0, P0⟩
  iapply (wait_rcv m ρ K _ c 0 1 (off5_1_eq c)) $$ [HO W1]
  · isplitr; · iexact HR
    isplitl [HO] <;> iassumption
  iintro ⟨HO, Z1, P1⟩
  iapply (run_ret Q c _)
  iapply Hk
  isplitl [HO]; · iexact HO
  isplitl [Z0]; · iexact Z0
  isplitl [P0]; · iexact P0
  isplitl [Z1] <;> iassumption

/-- Part 13: the waits for group 1's first two landings. -/
theorem part13 (Q : _ → sProp 𝕄) (c : Dev nD) (v2 : BitVec 32) :
    iprop(records m ρ K ∗ ow c [] ∗ waitRes c (krcv 1 (peer 0 c)) ∗ waitRes c (krcv 1 (peer 1 c)))
      ⊢ iprop((∀ v416 v417 v418 v421, (ow c [] ∗ semVal (cell c (krcv 1 (peer 0 c))) 0 ∗ slotPts c (peer 0 c) 1 (rcvV m ρ) ∗ semVal (cell c (krcv 1 (peer 1 c))) 0 ∗ slotPts c (peer 1 c) 1 (rcvV m ρ)) -∗ Q ⟨v416, v417, v418, v421⟩) -∗ Run c (B13 c v2) Q) := by
  simp only [B13, k0_part13_eq_skeleton]; unfold k0_part13_skel
  simp only [semSignalWord, semWaitWord, Prog.lift, Prog.bind_op, Prog.bind_ret, Prog.pure_eq_ret, wp_deviceId]
  iintro ⟨#HR, HO, W0, W1⟩ Hk
  iapply (wait_rcv m ρ K _ c 1 0 (off7_0_eq c)) $$ [HO W0]
  · isplitr; · iexact HR
    isplitl [HO] <;> iassumption
  iintro ⟨HO, Z0, P0⟩
  iapply (wait_rcv m ρ K _ c 1 1 (off7_1_eq c)) $$ [HO W1]
  · isplitr; · iexact HR
    isplitl [HO] <;> iassumption
  iintro ⟨HO, Z1, P1⟩
  iapply (run_ret Q c _)
  iapply Hk
  isplitl [HO]; · iexact HO
  isplitl [Z0]; · iexact Z0
  isplitl [P0]; · iexact P0
  isplitl [Z1] <;> iassumption

/-- Part 10: the wait for group 0's last landing, then the four maxima and the first output and sum. -/
theorem part10 (Q : _ → sProp 𝕄) (c : Dev nD) (v286 : BitVec 32) :
    iprop(records m ρ K ∗ ow c [] ∗ waitRes c (krcv 0 (peer 2 c)) ∗ slotPts c c 0 (rcvV m ρ) ∗ slotPts c (peer 0 c) 0 (rcvV m ρ) ∗ slotPts c (peer 1 c) 0 (rcvV m ρ))
      ⊢ iprop(((ow c [] ∗ semVal (cell c (krcv 0 (peer 2 c))) 0 ∗ grpPts c 0 (rcvV m ρ)) -∗ Q ⟨a20 m ρ, a21 m ρ, a22 m ρ, a24 m ρ, a25 m ρ, a26 m ρ⟩) -∗ Run c (B10 c v286) Q) := by
  simp only [B10, k0_part10_eq_skeleton]; unfold k0_part10_skel
  simp only [semSignalWord, semWaitWord, Prog.lift, Prog.bind_op, Prog.bind_ret, Prog.pure_eq_ret, wp_deviceId]
  iintro ⟨#HR, HO, W2, P3, P0, P1⟩ Hk
  iapply (wait_rcv m ρ K _ c 0 2 (off5_2_eq c)) $$ [HO W2]
  · isplitr; · iexact HR
    isplitl [HO] <;> iassumption
  iintro ⟨HO, Z2, P2⟩
  ihave Hg := (Entails.of_eq (grp_slots c 0 (rcvV m ρ)).symm) $$ [P0 P1 P2 P3]
  · isplitl [P3]; · iexact P3
    isplitl [P0]; · iexact P0
    isplitl [P1] <;> iassumption
  iapply (run_loadM m ρ _ c 0 0 rfl) $$ Hg; iintro Hg
  iapply (run_loadM m ρ _ c 1 0 rfl) $$ Hg; iintro Hg
  iapply (run_loadM m ρ _ c 2 0 rfl) $$ Hg; iintro Hg
  iapply (run_loadM m ρ _ c 3 0 rfl) $$ Hg; iintro Hg
  iapply (run_loadO m ρ _ c 0 0 rfl) $$ Hg; iintro Hg
  iapply (run_loadL m ρ _ c 0 0 rfl) $$ Hg; iintro Hg
  unfold a20 a21 a22 a24 a25 a26
  iapply (run_ret Q c _)
  iapply Hk
  isplitl [HO]; · iexact HO
  isplitl [Z2] <;> iassumption

/-- Part 11: the other devices' outputs and sums of group 0, combined and normalised; the first head's product. -/
theorem part11 (Q : _ → sProp 𝕄) (c : Dev nD) :
    iprop(grpPts c 0 (rcvV m ρ) ∗ stgPts c cc0_stg2_0 (woV m ρ c))
      ⊢ iprop(((grpPts c 0 (rcvV m ρ) ∗ stgPts c cc0_stg2_0 (woV m ρ c)) -∗ Q ⟨a27 m ρ, a28 m ρ c⟩) -∗ Run c (B11 k0_pay17 (a20 m ρ) (a21 m ρ) (a22 m ρ) (a24 m ρ) (a25 m ρ) (a26 m ρ)) Q) := by
  simp only [B11, k0_part11_eq_skeleton]; unfold k0_part11_skel
  simp only [semSignalWord, semWaitWord, Prog.lift, Prog.bind_op, Prog.bind_ret, Prog.pure_eq_ret, wp_deviceId]
  iintro ⟨Hg, Hw⟩ Hk
  iapply (run_loadO m ρ _ c 1 0 rfl) $$ Hg; iintro Hg
  iapply (run_loadL m ρ _ c 1 0 rfl) $$ Hg; iintro Hg
  iapply (run_loadO m ρ _ c 2 0 rfl) $$ Hg; iintro Hg
  iapply (run_loadL m ρ _ c 2 0 rfl) $$ Hg; iintro Hg
  iapply (run_loadO m ρ _ c 3 0 rfl) $$ Hg; iintro Hg
  iapply (run_loadL m ρ _ c 3 0 rfl) $$ Hg; iintro Hg
  iapply (run_loadWo m ρ _ c 0 rfl) $$ Hw; iintro Hw
  unfold a27 a28
  iapply (run_ret Q c _)
  iapply Hk
  isplitl [Hg] <;> iassumption

/-- Part 12: group 0's other products, and the wait for group 1's local copy. -/
theorem part12 (Q : _ → sProp 𝕄) (c : Dev nD) (v2 : BitVec 32) :
    iprop(records m ρ K ∗ ow c [] ∗ stgPts c cc0_stg2_0 (woV m ρ c) ∗ waitRes c (kcpy 1))
      ⊢ iprop(((ow c [] ∗ stgPts c cc0_stg2_0 (woV m ρ c) ∗ semVal (cell c (kcpy 1)) 0 ∗ slotPts c c 1 (rcvV m ρ) ∗ rowPts c 1 (qs 3) (pktV m ρ c)) -∗ Q (a29 m ρ c)) -∗ Run c (B12 c v2 (a27 m ρ) (a28 m ρ c)) Q) := by
  simp only [B12, k0_part12_eq_skeleton]; unfold k0_part12_skel
  simp only [semSignalWord, semWaitWord, Prog.lift, Prog.bind_op, Prog.bind_ret, Prog.pure_eq_ret, wp_deviceId]
  iintro ⟨#HR, HO, Hw, W⟩ Hk
  iapply (run_loadWo m ρ _ c 1 rfl) $$ Hw; iintro Hw
  iapply (run_loadWo m ρ _ c 2 rfl) $$ Hw; iintro Hw
  iapply (run_loadWo m ρ _ c 3 rfl) $$ Hw; iintro Hw
  iapply (wait_cpy m ρ K _ c 1 rfl) $$ [HO W]
  · isplitr; · iexact HR
    isplitl [HO] <;> iassumption
  iintro ⟨HO, Hz, Hs, Hp⟩
  unfold a29
  iapply (run_ret Q c _)
  iapply Hk
  isplitl [HO]; · iexact HO
  isplitl [Hw]; · iexact Hw
  isplitl [Hz]; · iexact Hz
  isplitl [Hs] <;> iassumption

/-- Part 14: the wait for group 1's last landing, then the four maxima and the first output. -/
theorem part14 (Q : _ → sProp 𝕄) (c : Dev nD) (v416 v417 : BitVec 32) (v418 v421 : BitVec 1) :
    iprop(records m ρ K ∗ ow c [] ∗ waitRes c (krcv 1 (peer 2 c)) ∗ slotPts c c 1 (rcvV m ρ) ∗ slotPts c (peer 0 c) 1 (rcvV m ρ) ∗ slotPts c (peer 1 c) 1 (rcvV m ρ))
      ⊢ iprop(((ow c [] ∗ semVal (cell c (krcv 1 (peer 2 c))) 0 ∗ grpPts c 1 (rcvV m ρ)) -∗ Q ⟨a31 m ρ, a32 m ρ, a33 m ρ, a34 m ρ, k0_pay35, a36 m ρ, a37 m ρ⟩) -∗ Run c (B14 c v416 v417 v418 v421) Q) := by
  simp only [B14, k0_part14_eq_skeleton]; unfold k0_part14_skel
  simp only [semSignalWord, semWaitWord, Prog.lift, Prog.bind_op, Prog.bind_ret, Prog.pure_eq_ret, wp_deviceId]
  iintro ⟨#HR, HO, W2, P3, P0, P1⟩ Hk
  iapply (wait_rcv m ρ K _ c 1 2 (off7_2_eq c)) $$ [HO W2]
  · isplitr; · iexact HR
    isplitl [HO] <;> iassumption
  iintro ⟨HO, Z2, P2⟩
  ihave Hg := (Entails.of_eq (grp_slots c 1 (rcvV m ρ)).symm) $$ [P0 P1 P2 P3]
  · isplitl [P3]; · iexact P3
    isplitl [P0]; · iexact P0
    isplitl [P1] <;> iassumption
  iapply (run_loadM m ρ _ c 0 1 rfl) $$ Hg; iintro Hg
  iapply (run_loadM m ρ _ c 1 1 rfl) $$ Hg; iintro Hg
  iapply (run_loadM m ρ _ c 2 1 rfl) $$ Hg; iintro Hg
  iapply (run_loadM m ρ _ c 3 1 rfl) $$ Hg; iintro Hg
  iapply (run_loadO m ρ _ c 0 1 rfl) $$ Hg; iintro Hg
  unfold a31 a32 a33 a34 a36 a37
  iapply (run_ret Q c _)
  iapply Hk
  isplitl [HO]; · iexact HO
  isplitl [Z2] <;> iassumption

/-- Part 15: the other devices' outputs and sums of group 1, combined and normalised; the first head's rows. -/
theorem part15 (Q : _ → sProp 𝕄) (c : Dev nD) :
    iprop(grpPts c 1 (rcvV m ρ))
      ⊢ iprop(((grpPts c 1 (rcvV m ρ)) -∗ Q ⟨a38 m ρ, a39 m ρ⟩) -∗ Run c (B15 (a31 m ρ) (a32 m ρ) (a33 m ρ) (a34 m ρ) k0_pay35 (a36 m ρ) (a37 m ρ)) Q) := by
  simp only [B15, k0_part15_eq_skeleton]; unfold k0_part15_skel
  simp only [semSignalWord, semWaitWord, Prog.lift, Prog.bind_op, Prog.bind_ret, Prog.pure_eq_ret, wp_deviceId]
  iintro Hg Hk
  iapply (run_loadL m ρ _ c 0 1 rfl) $$ Hg; iintro Hg
  iapply (run_loadO m ρ _ c 1 1 rfl) $$ Hg; iintro Hg
  iapply (run_loadL m ρ _ c 1 1 rfl) $$ Hg; iintro Hg
  iapply (run_loadO m ρ _ c 2 1 rfl) $$ Hg; iintro Hg
  iapply (run_loadL m ρ _ c 2 1 rfl) $$ Hg; iintro Hg
  iapply (run_loadO m ρ _ c 3 1 rfl) $$ Hg; iintro Hg
  iapply (run_loadL m ρ _ c 3 1 rfl) $$ Hg; iintro Hg
  unfold a38 a39
  iapply (run_ret Q c _)
  iapply Hk
  iexact Hg

/-- Part 16: group 1's products, the result stored, and the wait for the first transfer's completion. -/
theorem part16 (Q : _ → sProp 𝕄) (c : Dev nD) (f : (cc0_stg5_0 : Ref sig .tc).ty.Contents (Elt F)) :
    iprop(records m ρ K ∗ ow c [] ∗ stgPts c cc0_stg2_0 (woV m ρ c) ∗ stgPts c cc0_stg5_0 f ∗ waitRes c (ksnd 0 0))
      ⊢ iprop(((ow c [] ∗ stgPts c cc0_stg2_0 (woV m ρ c) ∗ stgPts c cc0_stg5_0 (outAt m ρ c) ∗ semVal (cell c (ksnd 0 0)) 0 ∗ rowPts c 0 (qs (0 : Fin 3).castSucc) (pktV m ρ c)) -∗ Q ⟨⟩) -∗ Run c (B16 c (a29 m ρ c) (a38 m ρ) (a39 m ρ)) Q) := by
  simp only [B16, k0_part16_eq_skeleton]; unfold k0_part16_skel
  simp only [semSignalWord, semWaitWord, Prog.lift, Prog.bind_op, Prog.bind_ret, Prog.pure_eq_ret, wp_deviceId]
  iintro ⟨#HR, HO, Hw, Ho, W⟩ Hk
  iapply (run_loadWo m ρ _ c 4 rfl) $$ Hw; iintro Hw
  iapply (run_loadWo m ρ _ c 5 rfl) $$ Hw; iintro Hw
  iapply (run_loadWo m ρ _ c 6 rfl) $$ Hw; iintro Hw
  iapply (run_loadWo m ρ _ c 7 rfl) $$ Hw; iintro Hw
  unfold outAt
  iapply (run_loadOut _ c _) $$ Ho; iintro Ho
  iapply (run_storeOut _ c _ _) $$ Ho; iintro Ho
  iapply (wait_snd m ρ K _ c 0 0 rfl) $$ [HO W]
  · isplitr; · iexact HR
    isplitl [HO] <;> iassumption
  iintro ⟨HO, Hz, Hp⟩
  iapply (run_ret Q c _)
  iapply Hk
  isplitl [HO]; · iexact HO
  isplitl [Hw]; · iexact Hw
  isplitl [Ho]; · iexact Ho
  isplitl [Hz] <;> iassumption

/-- Part 17: the waits for the other transfers' completion. -/
theorem part17 (Q : _ → sProp 𝕄) (c : Dev nD) :
    iprop(records m ρ K ∗ ow c [] ∗ waitRes c (ksnd 0 1) ∗ waitRes c (ksnd 0 2) ∗ waitRes c (ksnd 1 0) ∗ waitRes c (ksnd 1 1) ∗ waitRes c (ksnd 1 2))
      ⊢ iprop(((ow c [] ∗ semVal (cell c (ksnd 0 1)) 0 ∗ rowPts c 0 (qs (1 : Fin 3).castSucc) (pktV m ρ c) ∗ semVal (cell c (ksnd 0 2)) 0 ∗ rowPts c 0 (qs (2 : Fin 3).castSucc) (pktV m ρ c) ∗ semVal (cell c (ksnd 1 0)) 0 ∗ rowPts c 1 (qs (0 : Fin 3).castSucc) (pktV m ρ c) ∗ semVal (cell c (ksnd 1 1)) 0 ∗ rowPts c 1 (qs (1 : Fin 3).castSucc) (pktV m ρ c) ∗ semVal (cell c (ksnd 1 2)) 0 ∗ rowPts c 1 (qs (2 : Fin 3).castSucc) (pktV m ρ c)) -∗ Q ⟨⟩) -∗ Run c (B17 c) Q) := by
  simp only [B17, k0_part17_eq_skeleton]; unfold k0_part17_skel
  simp only [semSignalWord, semWaitWord, Prog.lift, Prog.bind_op, Prog.bind_ret, Prog.pure_eq_ret, wp_deviceId]
  iintro ⟨#HR, HO, W01, W02, W10, W11, W12⟩ Hk
  iapply (wait_snd m ρ K _ c 0 1 rfl) $$ [HO W01]
  · isplitr; · iexact HR
    isplitl [HO] <;> iassumption
  iintro ⟨HO, Z01, P01⟩
  iapply (wait_snd m ρ K _ c 0 2 rfl) $$ [HO W02]
  · isplitr; · iexact HR
    isplitl [HO] <;> iassumption
  iintro ⟨HO, Z02, P02⟩
  iapply (wait_snd m ρ K _ c 1 0 rfl) $$ [HO W10]
  · isplitr; · iexact HR
    isplitl [HO] <;> iassumption
  iintro ⟨HO, Z10, P10⟩
  iapply (wait_snd m ρ K _ c 1 1 rfl) $$ [HO W11]
  · isplitr; · iexact HR
    isplitl [HO] <;> iassumption
  iintro ⟨HO, Z11, P11⟩
  iapply (wait_snd m ρ K _ c 1 2 rfl) $$ [HO W12]
  · isplitr; · iexact HR
    isplitl [HO] <;> iassumption
  iintro ⟨HO, Z12, P12⟩
  iapply (run_ret Q c _)
  iapply Hk
  isplitl [HO]; · iexact HO
  isplitl [Z01]; · iexact Z01
  isplitl [P01]; · iexact P01
  isplitl [Z02]; · iexact Z02
  isplitl [P02]; · iexact P02
  isplitl [Z10]; · iexact Z10
  isplitl [P10]; · iexact P10
  isplitl [Z11]; · iexact Z11
  isplitl [P11]; · iexact P11
  isplitl [Z12] <;> iassumption

end Cert.KernelIdeal.Exchange

end
-- ==== Proof.KernelIdealBody.lean ====
/-
The whole body of the kernel: from what the launch deals a device to the result in its staging buffer,
every semaphore back at zero and both scratch buffers whole again.
-/
module

public import proofs.«01_k».proof.Proof.KernelIdealParts

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the launch deals -/

/-- The duties a device pays: a unit on each peer's barrier cell, its own six sending cells, the receiving
    cells its six transfers land on, and its own two local-copy cells. -/
abbrev TK : Type := Fin 3 ⊕ (Fin 2 × Fin 3) ⊕ (Fin 2 × Fin 3) ⊕ Fin 2

/-- The cell and the duty each of them is. -/
def tokOf (c : Dev nD) : TK → (Dev nD × CK) × Fin 3
  | .inl k => ((peer k c, kbar), k)
  | .inr (.inl (g, k)) => ((c, ksnd g k), 0)
  | .inr (.inr (.inl (g, k))) => ((peer k c, krcv g c), 0)
  | .inr (.inr (.inr g)) => ((c, kcpy g), 0)

/-- The cells of a device, as a list. -/
def ckList (c : Dev nD) : List CK := [kbar, ksnd 0 0, ksnd 0 1, ksnd 0 2, ksnd 1 0, ksnd 1 1, ksnd 1 2, krcv 0 c, krcv 0 (peer 0 c), krcv 0 (peer 1 c), krcv 0 (peer 2 c), krcv 1 c, krcv 1 (peer 0 c), krcv 1 (peer 1 c), krcv 1 (peer 2 c), kcpy 0, kcpy 1]

/-- The list of a device's cells has no cell twice. -/
theorem ckList_nodup (c : Dev nD) : (ckList c).Nodup := by revert c; decide
/-- The list has every cell. -/
theorem ckList_univ (c : Dev nD) : (Finset.univ : Finset CK) = (ckList c).toFinset := by revert c; decide

omit [FloatOps F] [Named F] in
/-- A conjunction over a device's cells, one conjunct after another. -/
theorem bigSep_ck (c : Dev nD) (Φ : CK → sProp 𝕄) : bigSep Finset.univ Φ = iprop(Φ (kbar) ∗ Φ (ksnd 0 0) ∗ Φ (ksnd 0 1) ∗ Φ (ksnd 0 2) ∗ Φ (ksnd 1 0) ∗ Φ (ksnd 1 1) ∗ Φ (ksnd 1 2) ∗ Φ (krcv 0 c) ∗ Φ (krcv 0 (peer 0 c)) ∗ Φ (krcv 0 (peer 1 c)) ∗ Φ (krcv 0 (peer 2 c)) ∗ Φ (krcv 1 c) ∗ Φ (krcv 1 (peer 0 c)) ∗ Φ (krcv 1 (peer 1 c)) ∗ Φ (krcv 1 (peer 2 c)) ∗ Φ (kcpy 0) ∗ Φ (kcpy 1)) := by
  rw [bigSep_eq_bigSepL_of_eq (ckList c) (ckList_univ c) (ckList_nodup c)]
  unfold ckList
  simp only [bigSepL_cons_cons, bigSepL_singleton]
  rfl

omit [FloatOps F] [Named F] in
/-- A product over the tokens, written out. -/
theorem bigSep_tk (Φ : TK → sProp 𝕄) : bigSep Finset.univ Φ = iprop(Φ (.inl 0) ∗ Φ (.inl 1) ∗ Φ (.inl 2) ∗ Φ (.inr (.inl (0, 0))) ∗ Φ (.inr (.inl (0, 1))) ∗ Φ (.inr (.inl (0, 2))) ∗ Φ (.inr (.inl (1, 0))) ∗ Φ (.inr (.inl (1, 1))) ∗ Φ (.inr (.inl (1, 2))) ∗ Φ (.inr (.inr (.inl (0, 0)))) ∗ Φ (.inr (.inr (.inl (0, 1)))) ∗ Φ (.inr (.inr (.inl (0, 2)))) ∗ Φ (.inr (.inr (.inl (1, 0)))) ∗ Φ (.inr (.inr (.inl (1, 1)))) ∗ Φ (.inr (.inr (.inl (1, 2)))) ∗ Φ (.inr (.inr (.inr 0))) ∗ Φ (.inr (.inr (.inr 1)))) := by
  rw [bigSep_univ_eq_bigSepL [.inl 0, .inl 1, .inl 2, .inr (.inl (0, 0)), .inr (.inl (0, 1)), .inr (.inl (0, 2)), .inr (.inl (1, 0)), .inr (.inl (1, 1)), .inr (.inl (1, 2)), .inr (.inr (.inl (0, 0))), .inr (.inr (.inl (0, 1))), .inr (.inr (.inl (0, 2))), .inr (.inr (.inl (1, 0))), .inr (.inr (.inl (1, 1))), .inr (.inr (.inl (1, 2))), .inr (.inr (.inr 0)), .inr (.inr (.inr 1))] (by decide) (by decide)]
  simp only [bigSepL_cons_cons, bigSepL_singleton]
  rfl

omit [FloatOps F] [Named F] in
/-- A product over groups and peers, written out. -/
theorem bigSep_gk (Φ : Fin 2 × Fin 3 → sProp 𝕄) : bigSep Finset.univ Φ = iprop(Φ (0, 0) ∗ Φ (0, 1) ∗ Φ (0, 2) ∗ Φ (1, 0) ∗ Φ (1, 1) ∗ Φ (1, 2)) := by
  rw [bigSep_univ_eq_bigSepL [(0, 0), (0, 1), (0, 2), (1, 0), (1, 1), (1, 2)] (by decide) (by decide)]
  simp only [bigSepL_cons_cons, bigSepL_singleton]
  rfl

/-- A device's positions in its cells' rounds. -/
def posts (c : Dev nD) : sProp 𝕄 := bigSep Finset.univ fun k : CK => atPos ER (cell c k) 0 ∅ 0

/-- The tokens of the duties a device pays. -/
def toks (c : Dev nD) : sProp 𝕄 := bigSep Finset.univ fun j : TK => dutyTok ER (cell (tokOf c j).1.1 (tokOf c j).1.2) 0 (tokOf c j).2

/-- The credit a device waits on that others owe it: three units on its barrier, and its six landings. -/
def crds (c : Dev nD) : sProp 𝕄 :=
  iprop(cred (tallyAt (cell c kbar) () 3) ∗ bigSep Finset.univ fun gk : Fin 2 × Fin 3 => cred (tallyAt (cell c (krcv gk.1 (peer gk.2 c))) () N))

omit [FloatOps F] [Named F] in
/-- The positions of a device's cells, written out. -/
theorem posts_eq (c : Dev nD) : (posts c : sProp 𝕄) = iprop(atPos ER (cell c (kbar)) 0 ∅ 0 ∗ atPos ER (cell c (ksnd 0 0)) 0 ∅ 0 ∗ atPos ER (cell c (ksnd 0 1)) 0 ∅ 0 ∗ atPos ER (cell c (ksnd 0 2)) 0 ∅ 0 ∗ atPos ER (cell c (ksnd 1 0)) 0 ∅ 0 ∗ atPos ER (cell c (ksnd 1 1)) 0 ∅ 0 ∗ atPos ER (cell c (ksnd 1 2)) 0 ∅ 0 ∗ atPos ER (cell c (krcv 0 c)) 0 ∅ 0 ∗ atPos ER (cell c (krcv 0 (peer 0 c))) 0 ∅ 0 ∗ atPos ER (cell c (krcv 0 (peer 1 c))) 0 ∅ 0 ∗ atPos ER (cell c (krcv 0 (peer 2 c))) 0 ∅ 0 ∗ atPos ER (cell c (krcv 1 c)) 0 ∅ 0 ∗ atPos ER (cell c (krcv 1 (peer 0 c))) 0 ∅ 0 ∗ atPos ER (cell c (krcv 1 (peer 1 c))) 0 ∅ 0 ∗ atPos ER (cell c (krcv 1 (peer 2 c))) 0 ∅ 0 ∗ atPos ER (cell c (kcpy 0)) 0 ∅ 0 ∗ atPos ER (cell c (kcpy 1)) 0 ∅ 0) := by
  unfold posts; rw [bigSep_ck c]

omit [FloatOps F] [Named F] in
/-- The tokens of a device, written out. -/
theorem toks_eq (c : Dev nD) : (toks c : sProp 𝕄) = iprop(dutyTok ER (cell (peer 0 c) kbar) 0 0 ∗ dutyTok ER (cell (peer 1 c) kbar) 0 1 ∗ dutyTok ER (cell (peer 2 c) kbar) 0 2 ∗ dutyTok ER (cell c (ksnd 0 0)) 0 0 ∗ dutyTok ER (cell c (ksnd 0 1)) 0 0 ∗ dutyTok ER (cell c (ksnd 0 2)) 0 0 ∗ dutyTok ER (cell c (ksnd 1 0)) 0 0 ∗ dutyTok ER (cell c (ksnd 1 1)) 0 0 ∗ dutyTok ER (cell c (ksnd 1 2)) 0 0 ∗ dutyTok ER (cell (peer 0 c) (krcv 0 c)) 0 0 ∗ dutyTok ER (cell (peer 1 c) (krcv 0 c)) 0 0 ∗ dutyTok ER (cell (peer 2 c) (krcv 0 c)) 0 0 ∗ dutyTok ER (cell (peer 0 c) (krcv 1 c)) 0 0 ∗ dutyTok ER (cell (peer 1 c) (krcv 1 c)) 0 0 ∗ dutyTok ER (cell (peer 2 c) (krcv 1 c)) 0 0 ∗ dutyTok ER (cell c (kcpy 0)) 0 0 ∗ dutyTok ER (cell c (kcpy 1)) 0 0) := by
  unfold toks; rw [bigSep_tk]; rfl

omit [FloatOps F] [Named F] in
/-- The credits of a device, written out. -/
theorem crds_eq (c : Dev nD) : (crds c : sProp 𝕄) = iprop(cred (tallyAt (cell c kbar) () 3) ∗ cred (tallyAt (cell c (krcv 0 (peer 0 c))) () N) ∗ cred (tallyAt (cell c (krcv 0 (peer 1 c))) () N) ∗ cred (tallyAt (cell c (krcv 0 (peer 2 c))) () N) ∗ cred (tallyAt (cell c (krcv 1 (peer 0 c))) () N) ∗ cred (tallyAt (cell c (krcv 1 (peer 1 c))) () N) ∗ cred (tallyAt (cell c (krcv 1 (peer 2 c))) () N)) := by
  unfold crds; rw [bigSep_gk]

variable (K : Dev nD × CK → ℕ)

/-- What a device's body ends with: both scratch buffers whole, and every cell at zero. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ bigSep Finset.univ fun k : CK => semVal (cell c k) 0)

/-- A run of one part goes on with the run of the rest. -/
theorem run_bind {α β : Type} (c : Dev nD) (p : Prog (TpuEff nD τ sig (Elt F) Λ₀ .tc) α) (k : α → Prog (TpuEff nD τ sig (Elt F) Λ₀ .tc) β) (Q : β → sProp 𝕄) :
    Run c (p >>= k) Q = Run c p (fun a => Run c (k a) Q) := by
  unfold Run; rw [wp_bind]

/-! A barrier unit's payload: the payer's two receive pieces for this device. -/
theorem bar_pay0 (c : Dev nD) : payK m ρ c kbar 0 ⊢ iprop((∃ f, slotPts (peer 2 c) c 0 f) ∗ (∃ f, slotPts (peer 2 c) c 1 f)) := Entails.of_eq (payK_bar m ρ c 0)
/-- The second peer's payload at the barrier. -/
theorem bar_pay1 (c : Dev nD) : payK m ρ c kbar 1 ⊢ iprop((∃ f, slotPts (peer 1 c) c 0 f) ∗ (∃ f, slotPts (peer 1 c) c 1 f)) := Entails.of_eq (payK_bar m ρ c 1)
/-- The third peer's payload at the barrier. -/
theorem bar_pay2 (c : Dev nD) : payK m ρ c kbar 2 ⊢ iprop((∃ f, slotPts (peer 0 c) c 0 f) ∗ (∃ f, slotPts (peer 0 c) c 1 f)) := Entails.of_eq (payK_bar m ρ c 2)

/-- The body, at the launch's buffers. -/
abbrev body := cc0_body (F := F) xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cc0_scratch2 cc0_scratch3 cc0_scratch4

set_option maxHeartbeats 2000000 in
/-- The body runs, hands back the five arguments' buffers and leaves its result in the sixth. -/
theorem sound_body (Q : PUnit → sProp 𝕄) (c : Dev nD) (fp : (cc0_scratch0 : Ref sig .tc).ty.Contents (Elt F)) (fr : (cc0_scratch1 : Ref sig .tc).ty.Contents (Elt F))
    (fo : (cc0_stg5_0 : Ref sig .tc).ty.Contents (Elt F)) :
    iprop(records m ρ K ∗ levAts L lv ∗ ow c (oweAll c) ∗ posts c ∗ toks c ∗ crds c
        ∗ (((c : Thread nD τ).loc cc0_scratch0) ↦{fullShare} fp) ∗ (((c : Thread nD τ).loc cc0_scratch1) ↦{fullShare} fr)
        ∗ (stgPts c cc0_stg0_0 (xV m ρ c) ∗ stgPts c cc0_stg1_0 (wqV m ρ c) ∗ stgPts c cc0_stg2_0 (woV m ρ c) ∗ stgPts c cc0_stg3_0 (kV m ρ c) ∗ stgPts c cc0_stg4_0 (vV m ρ c)) ∗ stgPts c cc0_stg5_0 fo)
      ⊢ iprop(((ow c [] ∗ Φ₁ c ∗ (stgPts c cc0_stg0_0 (xV m ρ c) ∗ stgPts c cc0_stg1_0 (wqV m ρ c) ∗ stgPts c cc0_stg2_0 (woV m ρ c) ∗ stgPts c cc0_stg3_0 (kV m ρ c) ∗ stgPts c cc0_stg4_0 (vV m ρ c)) ∗ stgPts c cc0_stg5_0 (outAt m ρ c)) -∗ Q ⟨⟩) -∗ Run c body Q) := by
  rw [posts_eq, toks_eq, crds_eq, pkt_groups, rcv_groups, grp_slots, grp_slots]
  simp only [body, cc0_body_eq_skeleton]; unfold cc0_body_skel
  iintro ⟨#HR, #HL, HO, ⟨Ab, As00, As01, As02, As10, As11, As12, Ao0, Ar00, Ar01, Ar02, Ao1, Ar10, Ar11, Ar12, Ac0, Ac1⟩, ⟨Tb0, Tb1, Tb2, Ts00, Ts01, Ts02, Ts10, Ts11, Ts12, Tr00, Tr01, Tr02, Tr10, Tr11, Tr12, Tc0, Tc1⟩, ⟨Cb, Cr00, Cr01, Cr02, Cr10, Cr11, Cr12⟩, ⟨P0, P1⟩, ⟨⟨S00, S01, S02, S03⟩, ⟨S10, S11, S12, S13⟩⟩, ⟨X, WQ, WO, KV, VV⟩, OUT⟩ Hk
  rw [run_bind]
  iapply (part1 m ρ K _ c ) $$ [HO Tb0 S01 S11 Tb1 S02 S12]
  · isplitr; · iexact HR
    isplitl [HO]; · iexact HO
    isplitl [Tb0 S01 S11]
    · isplitl [Tb0]; · iexact Tb0
      isplitl [S01]; · iexists fr; iexact S01
      iexists fr; iexact S11
    isplitl [Tb1]; · iexact Tb1
    isplitl [S02]; · iexists fr; iexact S02
    iexists fr; iexact S12
  iintro %v2 %v30 %c4 %v31 HO
  try dsimp only
  rw [run_bind]
  iapply (part2 m ρ K _ c v30 c4 v31) $$ [HO Tb2 S03 S13 Cb Ab X WQ KV VV]
  · isplitr; · iexact HR
    isplitr; · iexact HL
    isplitl [HO]; · iexact HO
    isplitl [Tb2 S03 S13]
    · isplitl [Tb2]; · iexact Tb2
      isplitl [S03]; · iexists fr; iexact S03
      iexists fr; iexact S13
    isplitl [Cb]; · iexact Cb
    isplitl [Ab]; · iexact Ab
    isplitl [X]; · iexact X
    isplitl [WQ]; · iexact WQ
    isplitl [KV]; · iexact KV
    iexact VV
  iintro ⟨HO, Vb, ⟨Y0, Y1, Y2⟩, X, WQ, KV, VV⟩
  try dsimp only
  icases (bar_pay0 m ρ c) $$ Y0 with ⟨D02, D12⟩
  icases (bar_pay1 m ρ c) $$ Y1 with ⟨D01, D11⟩
  icases (bar_pay2 m ρ c) $$ Y2 with ⟨D00, D10⟩
  rw [run_bind]
  iapply (part3 m ρ K _ c v2 fp) $$ [P0 S00 Tc0]
  · isplitr; · iexact HR
    isplitl [P0]; · iexact P0
    isplitl [S00]; · iexists fr; iexact S00
    iexact Tc0
  iintro ⟨Cc0, R00, R01, R02⟩
  try dsimp only
  rw [run_bind]
  iapply (part4 m ρ K _ c v2) $$ [HO R00 D00 Ts00 Tr00 R01 D01 Ts01 Tr01]
  · isplitr; · iexact HR
    isplitl [HO]; · iexact HO
    isplitl [R00 D00 Ts00 Tr00]
    · unfold sendRes
      isplitl [R00]; · iexact R00
      isplitl [D00]; · iexact D00
      isplitl [Ts00]; · iexact Ts00
      iexact Tr00
    unfold sendRes
    isplitl [R01]; · iexact R01
    isplitl [D01]; · iexact D01
    isplitl [Ts01]; · iexact Ts01
    iexact Tr01
  iintro %v123 %v124 %v125 %v126 ⟨Cs00, Cs01, HO⟩
  try dsimp only
  rw [run_bind]
  iapply (part5 m ρ K _ c v123 v124 v125 v126 fp) $$ [HO R02 D02 Ts02 Tr02 KV VV P1]
  · isplitr; · iexact HR
    isplitl [HO]; · iexact HO
    isplitl [R02 D02 Ts02 Tr02]
    · unfold sendRes
      isplitl [R02]; · iexact R02
      isplitl [D02]; · iexact D02
      isplitl [Ts02]; · iexact Ts02
      iexact Tr02
    isplitl [KV]; · iexact KV
    isplitl [VV]; · iexact VV
    iexact P1
  iintro %v160 ⟨Cs02, HO, KV, VV, P1⟩
  try dsimp only
  rw [run_bind]
  iapply (part6 m ρ K _ c v2 v160 fp) $$ [P1 S10 Tc1]
  · isplitr; · iexact HR
    isplitl [P1]; · iexact P1
    isplitl [S10]; · iexists fr; iexact S10
    iexact Tc1
  iintro ⟨Cc1, R10, R11, R12⟩
  try dsimp only
  rw [run_bind]
  iapply (part7 m ρ K _ c v2) $$ [HO R10 D10 Ts10 Tr10 R11 D11 Ts11 Tr11]
  · isplitr; · iexact HR
    isplitl [HO]; · iexact HO
    isplitl [R10 D10 Ts10 Tr10]
    · unfold sendRes
      isplitl [R10]; · iexact R10
      isplitl [D10]; · iexact D10
      isplitl [Ts10]; · iexact Ts10
      iexact Tr10
    unfold sendRes
    isplitl [R11]; · iexact R11
    isplitl [D11]; · iexact D11
    isplitl [Ts11]; · iexact Ts11
    iexact Tr11
  iintro %v224 ⟨Cs10, Cs11, HO⟩
  try dsimp only
  rw [run_bind]
  iapply (part8 m ρ K _ c v2 v224) $$ [HO R12 D12 Ts12 Tr12 Cc0 Ac0]
  · isplitr; · iexact HR
    isplitl [HO]; · iexact HO
    isplitl [R12 D12 Ts12 Tr12]
    · unfold sendRes
      isplitl [R12]; · iexact R12
      isplitl [D12]; · iexact D12
      isplitl [Ts12]; · iexact Ts12
      iexact Tr12
    unfold waitRes
    isplitl [Cc0]; · iexact Cc0
    iexact Ac0
  iintro ⟨Cs12, HO, Vc0, S00, R03⟩
  try dsimp only
  rw [run_bind]
  iapply (part9 m ρ K _ c v2) $$ [HO Cr00 Ar00 Cr01 Ar01]
  · isplitr; · iexact HR
    isplitl [HO]; · iexact HO
    isplitl [Cr00 Ar00]
    · unfold waitRes
      isplitl [Cr00]; · iexact Cr00
      iexact Ar00
    unfold waitRes
    isplitl [Cr01]; · iexact Cr01
    iexact Ar01
  iintro %v286 ⟨HO, Vr00, S01, Vr01, S02⟩
  try dsimp only
  rw [run_bind]
  iapply (part10 m ρ K _ c v286) $$ [HO Cr02 Ar02 S00 S01 S02]
  · isplitr; · iexact HR
    isplitl [HO]; · iexact HO
    isplitl [Cr02 Ar02]
    · unfold waitRes
      isplitl [Cr02]; · iexact Cr02
      iexact Ar02
    isplitl [S00]; · iexact S00
    isplitl [S01]; · iexact S01
    iexact S02
  iintro ⟨HO, Vr02, G0⟩
  try dsimp only
  rw [run_bind]
  iapply (part11 m ρ _ c ) $$ [G0 WO]
  · isplitl [G0]; · iexact G0
    iexact WO
  iintro ⟨G0, WO⟩
  try dsimp only
  rw [run_bind]
  iapply (part12 m ρ K _ c v2) $$ [HO WO Cc1 Ac1]
  · isplitr; · iexact HR
    isplitl [HO]; · iexact HO
    isplitl [WO]; · iexact WO
    unfold waitRes
    isplitl [Cc1]; · iexact Cc1
    iexact Ac1
  iintro ⟨HO, WO, Vc1, S10, R13⟩
  try dsimp only
  rw [run_bind]
  iapply (part13 m ρ K _ c v2) $$ [HO Cr10 Ar10 Cr11 Ar11]
  · isplitr; · iexact HR
    isplitl [HO]; · iexact HO
    isplitl [Cr10 Ar10]
    · unfold waitRes
      isplitl [Cr10]; · iexact Cr10
      iexact Ar10
    unfold waitRes
    isplitl [Cr11]; · iexact Cr11
    iexact Ar11
  iintro %v416 %v417 %v418 %v421 ⟨HO, Vr10, S11, Vr11, S12⟩
  try dsimp only
  rw [run_bind]
  iapply (part14 m ρ K _ c v416 v417 v418 v421) $$ [HO Cr12 Ar12 S10 S11 S12]
  · isplitr; · iexact HR
    isplitl [HO]; · iexact HO
    isplitl [Cr12 Ar12]
    · unfold waitRes
      isplitl [Cr12]; · iexact Cr12
      iexact Ar12
    isplitl [S10]; · iexact S10
    isplitl [S11]; · iexact S11
    iexact S12
  iintro ⟨HO, Vr12, G1⟩
  try dsimp only
  rw [run_bind]
  iapply (part15 m ρ _ c ) $$ [G1]
  · iexact G1
  iintro G1
  try dsimp only
  rw [run_bind]
  iapply (part16 m ρ K _ c fo) $$ [HO WO OUT Cs00 As00]
  · isplitr; · iexact HR
    isplitl [HO]; · iexact HO
    isplitl [WO]; · iexact WO
    isplitl [OUT]; · iexact OUT
    unfold waitRes
    isplitl [Cs00]; · iexact Cs00
    iexact As00
  iintro ⟨HO, WO, OUT, Vs00, R00⟩
  try dsimp only
  rw [run_bind]
  iapply (part17 m ρ K _ c ) $$ [HO Cs01 As01 Cs02 As02 Cs10 As10 Cs11 As11 Cs12 As12]
  · isplitr; · iexact HR
    isplitl [HO]; · iexact HO
    isplitl [Cs01 As01]
    · unfold waitRes
      isplitl [Cs01]; · iexact Cs01
      iexact As01
    isplitl [Cs02 As02]
    · unfold waitRes
      isplitl [Cs02]; · iexact Cs02
      iexact As02
    isplitl [Cs10 As10]
    · unfold waitRes
      isplitl [Cs10]; · iexact Cs10
      iexact As10
    isplitl [Cs11 As11]
    · unfold waitRes
      isplitl [Cs11]; · iexact Cs11
      iexact As11
    unfold waitRes
    isplitl [Cs12]; · iexact Cs12
    iexact As12
  iintro ⟨HO, Vs01, R01, Vs02, R02, Vs10, R10, Vs11, R11, Vs12, R12⟩
  try dsimp only
  imod (close_own m ρ K c 0) $$ [Ao0] with Vo0
  · isplitr; · iexact HR
    iexact Ao0
  imod (close_own m ρ K c 1) $$ [Ao1] with Vo1
  · isplitr; · iexact HR
    iexact Ao1
  iapply (run_ret Q c _)
  iapply Hk
  isplitl [HO]; · iexact HO
  isplitl [R00 R01 R02 R03 R10 R11 R12 R13 G0 G1 Vb Vs00 Vs01 Vs02 Vs10 Vs11 Vs12 Vo0 Vr00 Vr01 Vr02 Vo1 Vr10 Vr11 Vr12 Vc0 Vc1]
  · unfold Φ₁
    isplitl [R00 R01 R02 R03 R10 R11 R12 R13]
    · iexists (pktV m ρ c)
      iapply (Entails.of_eq (pkt_groups c (pktV m ρ c)).symm)
      isplitl [R00 R01 R02 R03]
      · iapply (Entails.of_eq (rowPts_shares' c 0 (pktV m ρ c)).symm)
        isplitl [R00]; · iexact R00
        isplitl [R01]; · iexact R01
        isplitl [R02]; · iexact R02
        iexact R03
      · iapply (Entails.of_eq (rowPts_shares' c 1 (pktV m ρ c)).symm)
        isplitl [R10]; · iexact R10
        isplitl [R11]; · iexact R11
        isplitl [R12]; · iexact R12
        iexact R13
    isplitl [G0 G1]
    · iexists (rcvV m ρ)
      iapply (Entails.of_eq (rcv_groups c (rcvV m ρ)).symm)
      isplitl [G0]; · iexact G0
      iexact G1
    iapply (Entails.of_eq (bigSep_ck c (fun k : CK => semVal (cell c k) 0)).symm)
    isplitl [Vb]; · iexact Vb
    isplitl [Vs00]; · iexact Vs00
    isplitl [Vs01]; · iexact Vs01
    isplitl [Vs02]; · iexact Vs02
    isplitl [Vs10]; · iexact Vs10
    isplitl [Vs11]; · iexact Vs11
    isplitl [Vs12]; · iexact Vs12
    isplitl [Vo0]; · iexact Vo0
    isplitl [Vr00]; · iexact Vr00
    isplitl [Vr01]; · iexact Vr01
    isplitl [Vr02]; · iexact Vr02
    isplitl [Vo1]; · iexact Vo1
    isplitl [Vr10]; · iexact Vr10
    isplitl [Vr11]; · iexact Vr11
    isplitl [Vr12]; · iexact Vr12
    isplitl [Vc0]; · iexact Vc0
    iexact Vc1
  isplitl [X WQ WO KV VV]
  · isplitl [X]; · iexact X
    isplitl [WQ]; · iexact WQ
    isplitl [WO]; · iexact WO
    isplitl [KV]; · iexact KV
    iexact VV
  iexact OUT

end Cert.KernelIdeal.Exchange

end
-- ==== Proof.KernelIdealLaunch.lean ====
/-
The launch: each device's share of the bookkeeping is allocated, the devices run together, and the run ends
with the result on every device and every semaphore at zero.
-/
module

public import proofs.«01_k».proof.Proof.KernelIdealBody
public import proofs.«01_k».proof.Proof.Gen.KernelIdeal.Points
public import Idealize.ShloMosaic.Lib.Pipeline.CollectiveSegs
public import Idealize.ShloMosaic.Lib.Pipeline.ValueKit.Geometry

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

set_option synthInstance.maxHeartbeats 200000
set_option synthInstance.maxSize 2000

/-! ## The one point of the grid -/

/-- The grid has one point. -/
theorem fin_N (t : Fin cfg0.N) : t = t0_0 := fin_N0 t

/-- What a device's body starts from: the records at some names, its positions, tokens and credit, the levels. -/
def start (c : Dev nD) : sProp 𝕄 := iprop((∃ K, records m ρ K ∗ posts c ∗ toks c) ∗ crds c ∗ levAts L lv)

/-- That, and both scratch buffers whole. -/
def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))

/-- The run's data: what each window's buffer holds after the point, what the body holds and owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m ρ c
    | ⟨1, _⟩ => wqV m ρ c
    | ⟨2, _⟩ => woV m ρ c
    | ⟨3, _⟩ => kV m ρ c
    | ⟨4, _⟩ => vV m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] [Named F] in
/-- A whole buffer owned at given contents, as a points-to at contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- The contents of a buffer, owned whole. -/
def stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

omit [FloatOps F] [Named F] in
/-- A staging buffer, as the body takes it. -/
theorem stg_elim (c : Dev nD) (b : Ref sig .tc) (X : b.ty.Contents (Elt F)) : (stg c b X : sProp 𝕄) ⊢ stgPts c b X := by
  unfold stg stgPts; iintro ⟨%f, %h, H⟩; subst h; iexact H
omit [FloatOps F] [Named F] in
/-- A staging buffer, as the body gives it back. -/
theorem stg_intro (c : Dev nD) (b : Ref sig .tc) (X : b.ty.Contents (Elt F)) : (stgPts c b X : sProp 𝕄) ⊢ stg c b X := by
  unfold stg stgPts; iintro H; iexists X; isplitr; · ipureintro; rfl
  iexact H

set_option maxRecDepth 4000 in
/-- What the body starts from. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 4000 in
/-- What the body ends with. -/
def bodyPost (c : Dev nD) : sProp 𝕄 :=
  iprop(Φ₁ c ∗ (dats m ρ 0 c).owesAt () t0_0.succ
    ∗ stg c cc0_stg0_0 (xV m ρ c) ∗ stg c cc0_stg1_0 (wqV m ρ c) ∗ stg c cc0_stg2_0 (woV m ρ c) ∗ stg c cc0_stg3_0 (kV m ρ c) ∗ stg c cc0_stg4_0 (vV m ρ c) ∗ stg c cc0_stg5_0 (outAt m ρ c))

/-- Before the point each argument's buffer holds that argument. -/
theorem before_0 (c : Dev nD) (d) : (dats m ρ 0 c).before (0 : Fin 6) t0_0 d = xV m ρ c := by
  unfold Dat.before; rw [if_pos (fetch0_0 t0_0)]; rfl
/-- The query projection's window holds it. -/
theorem before_1 (c : Dev nD) (d) : (dats m ρ 0 c).before (1 : Fin 6) t0_0 d = wqV m ρ c := by
  unfold Dat.before; rw [if_pos (fetch0_1 t0_0)]; rfl
/-- The output projection's window holds it. -/
theorem before_2 (c : Dev nD) (d) : (dats m ρ 0 c).before (2 : Fin 6) t0_0 d = woV m ρ c := by
  unfold Dat.before; rw [if_pos (fetch0_2 t0_0)]; rfl
/-- The keys' window holds them. -/
theorem before_3 (c : Dev nD) (d) : (dats m ρ 0 c).before (3 : Fin 6) t0_0 d = kV m ρ c := by
  unfold Dat.before; rw [if_pos (fetch0_3 t0_0)]; rfl
/-- The values' window holds them. -/
theorem before_4 (c : Dev nD) (d) : (dats m ρ 0 c).before (4 : Fin 6) t0_0 d = vV m ρ c := by
  unfold Dat.before; rw [if_pos (fetch0_4 t0_0)]; rfl

set_option maxHeartbeats 1000000 in
/-- The body runs from its start to its end. -/
theorem body_run (c : Dev nD) : bodyPre m ρ c ⊢ Run c body (fun _ => bodyPost m ρ c) := by
  unfold bodyPre Φ₀ start Dat.owesAt Pipeline.owesWithin
  rw [show (dats m ρ 0 c).owed t0_0.castSucc = O₀ c from rfl]
  iintro ⟨⟨⟨⟨%K, #HR, Hpos, Htok⟩, Hcr, #HL⟩, ⟨%fp, HP⟩, ⟨%fr, HV⟩⟩, ⟨%W, %hW, HO⟩, ⟨%d0, H0⟩, ⟨%d1, H1⟩, ⟨%d2, H2⟩, ⟨%d3, H3⟩, ⟨%d4, H4⟩, ⟨%d5, H5⟩⟩
  ihave H0 := ((Entails.of_eq (congrArg (stg c cc0_stg0_0) (before_0 m ρ c d0))).trans (stg_elim c cc0_stg0_0 (xV m ρ c))) $$ H0
  ihave H1 := ((Entails.of_eq (congrArg (stg c cc0_stg1_0) (before_1 m ρ c d1))).trans (stg_elim c cc0_stg1_0 (wqV m ρ c))) $$ H1
  ihave H2 := ((Entails.of_eq (congrArg (stg c cc0_stg2_0) (before_2 m ρ c d2))).trans (stg_elim c cc0_stg2_0 (woV m ρ c))) $$ H2
  ihave H3 := ((Entails.of_eq (congrArg (stg c cc0_stg3_0) (before_3 m ρ c d3))).trans (stg_elim c cc0_stg3_0 (kV m ρ c))) $$ H3
  ihave H4 := ((Entails.of_eq (congrArg (stg c cc0_stg4_0) (before_4 m ρ c d4))).trans (stg_elim c cc0_stg4_0 (vV m ρ c))) $$ H4
  ihave H5 := (stg_elim c cc0_stg5_0 _) $$ H5
  iapply (sound_body m ρ K (fun _ => bodyPost m ρ c) c fp fr _) $$ [Hpos Htok Hcr HP HV HO H0 H1 H2 H3 H4 H5]
  · isplitr; · iexact HR
    isplitr; · iexact HL
    isplitl [HO]
    · unfold ow O₀; iexists W; iexact HO
    isplitl [Hpos]; · iexact Hpos
    isplitl [Htok]; · iexact Htok
    isplitl [Hcr]; · iexact Hcr
    isplitl [HP]; · iexact HP
    isplitl [HV]; · iexact HV
    isplitl [H0 H1 H2 H3 H4]
    · isplitl [H0]; · iexact H0
      isplitl [H1]; · iexact H1
      isplitl [H2]; · iexact H2
      isplitl [H3]; · iexact H3
      iexact H4
    iexact H5
  iintro ⟨HO, HF, ⟨H0, H1, H2, H3, H4⟩, H5⟩
  unfold bodyPost Dat.owesAt Pipeline.owesWithin ow
  rw [show (dats m ρ 0 c).owed t0_0.succ = (0 : CellTallies nD τ sig Unit) from rfl]
  icases HO with ⟨%W', HO⟩
  isplitl [HF]; · iexact HF
  isplitl [HO]
  · iexists W'; isplitr
    · ipureintro; exact fun _ _ => Or.inl trivial
    · iexact HO
  isplitl [H0]; · iapply (stg_intro c cc0_stg0_0 (xV m ρ c)); iexact H0
  isplitl [H1]; · iapply (stg_intro c cc0_stg1_0 (wqV m ρ c)); iexact H1
  isplitl [H2]; · iapply (stg_intro c cc0_stg2_0 (woV m ρ c)); iexact H2
  isplitl [H3]; · iapply (stg_intro c cc0_stg3_0 (kV m ρ c)); iexact H3
  isplitl [H4]; · iapply (stg_intro c cc0_stg4_0 (vV m ρ c)); iexact H4
  iapply (stg_intro c cc0_stg5_0 (outAt m ρ c)); iexact H5

omit [FloatOps F] [Named F] in
/-- A product over the windows, written out. -/
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
/-- The grid point's obligation: the body run at the launch's buffers. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_run m ρ c

/-! ## The launch's allocation -/

/-- The kernel's own scoped cells, in the order the launch deals them. -/
def oks : Fin 16 → CK := ![ksnd 0 0, ksnd 0 1, ksnd 0 2, ksnd 1 0, ksnd 1 1, ksnd 1 2, krcv 0 0, krcv 0 1, krcv 0 2, krcv 0 3, krcv 1 0, krcv 1 1, krcv 1 2, krcv 1 3, kcpy 0, kcpy 1]
/-- The kernel's own semaphores. -/
abbrev osem : Fin 16 → SemLoc sig := fun i => csem (oks i)

/-- The own semaphores differ from each other and from the windows'. -/
theorem ownSemFacts : Pipeline.OwnSemFacts cfg0.spec osem := by decide

/-- Every window's share is the whole. -/
theorem share_eq (c : Dev nD) (w : Fin cfg0.W) : (dats m ρ 0 c).share w = fullShare := by unfold Dat.share; split <;> rfl

/-- The cell of a device and a kind. -/
abbrev kcell (ck : Dev nD × CK) : GSem nD τ sig := cell ck.1 ck.2

/-- Different devices or kinds have different cells. -/
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- Different tokens are different. -/
theorem tok_injective : Function.Injective (fun cj : Dev nD × TK => tokOf cj.1 cj.2) := by
  have h : ∀ (c d : Dev nD) (j i : TK), tokOf c j = tokOf d i → c = d ∧ j = i := by decide +kernel
  exact fun a b e => Prod.ext (h _ _ _ _ e).1 (h _ _ _ _ e).2

/-- A duty, by who pays it. -/
def dutyOf (cj : Dev nD × TK) : GSem nD τ sig × ℕ × Fin 3 := (kcell (tokOf cj.1 cj.2).1, 0, (tokOf cj.1 cj.2).2)

/-- Different duties are different. -/
theorem dutyOf_injective : Function.Injective dutyOf := fun a b h => by
  have h1 := kcell_injective (congrArg Prod.fst h)
  have h2 : (tokOf a.1 a.2).2 = (tokOf b.1 b.2).2 := congrArg (fun x : GSem nD τ sig × ℕ × Fin 3 => x.2.2) h
  exact tok_injective (Prod.ext h1 h2)

/-- All the devices' cells. -/
def allCells : Finset (GSem nD τ sig) := Finset.univ.map ⟨kcell, kcell_injective⟩
/-- All the duties' tokens. -/
def allToks : Finset (GSem nD τ sig × ℕ × Fin 3) := Finset.univ.map ⟨dutyOf, dutyOf_injective⟩

/-- The starting ghost state. -/
def u₀ : UU := (initOf (Pipeline.cells cfgs cellOf_inj) (Pipeline.launchToks cfgs cellOf_inj), initOf allCells allToks)

/-- What the launch's element deals a device. -/
def G (c : Dev nD) : sProp 𝕄 :=
  iprop((bigSep Finset.univ fun k : CK => roundState ER (Rd m ρ) (cell c k) 0)
    ∗ (bigSep Finset.univ fun k : CK => reached ER (cell c k) 0) ∗ posts c ∗ toks c)

/-- What the allocation makes of it. -/
def G' (c : Dev nD) : sProp 𝕄 := iprop(∃ K, records m ρ K ∗ posts c ∗ toks c)

/-- The starting ghost state gives every device its part. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posts; simp only [bigSep_sep']
  isplitl [Hst]; · iexact Hst
  isplitl [Hr]; · iexact Hr
  isplitl [Hat]; · iexact Hat
  iexact Htok

omit [FloatOps F] [Named F] in
/-- The own semaphores at zero, written out. -/
theorem ownSems0_eq (c : Dev nD) : (Pipeline.ownSems0 (Ix := Unit) (Name := ℕ) (U := UU) (Lvl := ℕ) (Val := Elt F) (τ := τ) osem c : sProp 𝕄)
    = bigSep Finset.univ fun i : Fin 16 => semVal (cell c (oks i)) 0 := rfl

omit [FloatOps F] [Named F] in
/-- The one semaphore from outside is the barrier's. -/
theorem unscopedSems0_eq (c : Dev nD) : (unscopedSems0 c : sProp 𝕄) = semVal (cell c kbar) 0 := by
  unfold unscopedSems0; rw [bigSep_eq_bigSepL_of_eq [SemLoc.reg barS] (by decide) (by decide)]; rfl

/-- A device's cells: the barrier's, and the sixteen scoped ones. -/
def ckEquiv : Unit ⊕ Fin 16 → CK := Sum.elim (fun _ => kbar) oks
/-- The cells are numbered without gaps or repetition. -/
theorem ckEquiv_bij : Function.Bijective ckEquiv := by
  have h1 : ∀ a b, ckEquiv a = ckEquiv b → a = b := by decide
  have h2 : ∀ k, ∃ a, ckEquiv a = k := by decide
  exact ⟨fun a b => h1 a b, h2⟩

omit [FloatOps F] [Named F] in
/-- The counters of a device's cells: the unscoped one and the scoped ones. -/
theorem sems0_eq (c : Dev nD) :
    (bigSep Finset.univ fun k : CK => semVal (cell c k) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_univ_equiv (Equiv.ofBijective ckEquiv ckEquiv_bij) (fun k : CK => (semVal (cell c k) 0 : sProp 𝕄)), bigSep_univ_sum]
  congr 1
  exact bigSep_singleton

/-- A device's counters at zero and positions become its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (cell c k)))
          ∗ (bigSep Finset.univ fun k : CK => reached ER (cell c k) 0) ∗ posts c ∗ toks c) := by
  unfold G
  iintro ⟨Hos, Hus, Hst, Hre, Hat, Htok⟩
  ihave Hv := (Entails.of_eq (sems0_eq (F := F) c).symm) $$ [Hos Hus]
  · isplitl [Hus] <;> iassumption
  imod (show iprop((bigSep Finset.univ fun k : CK => semVal (cell c k) 0) ∗ bigSep Finset.univ fun k : CK => roundState ER (Rd m ρ) (cell c k) 0)
      ⊢ (|={Set.univ}=> bigSep Finset.univ fun k : CK => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  iexact Htok

omit [FloatOps F] [Named F] in
/-- Facts that may be copied go to every conjunct. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Each token goes to the device that pays the duty. -/
theorem regroup :
    (bigSep Finset.univ fun c : Dev nD => iprop((bigSep Finset.univ fun k : CK => iprop(∃ κ : ℕ, cellInv ER (Rd m ρ) κ (cell c k)))
          ∗ (bigSep Finset.univ fun k : CK => reached ER (cell c k) 0) ∗ posts c ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (cell ck.1 ck.2))),
    ← bigSep_univ_prod (fun ck : Dev nD × CK => (reached ER (cell ck.1 ck.2) 0 : sProp 𝕄))]
  iintro ⟨HI, #HR, Hlin⟩
  ihave HK := (BI.bigSep_exists_pi Finset.univ (fun (ck : Dev nD × CK) (κ : ℕ) => (cellInv ER (Rd m ρ) κ (cell ck.1 ck.2) : sProp 𝕄))) $$ HI
  icases HK with ⟨%K, #HI⟩
  iapply (bigSep_share (R := records m ρ K) (Φ := fun c => iprop(posts c ∗ toks c)) fun c _ => show _ ⊢ G' m ρ c from by
    unfold G'; iintro ⟨H1, H2⟩; iexists K; isplitl [H1]; · iexact H1
    iexact H2)
  isplitr
  · unfold records; isplitl; · iexact HI
    iexact HR
  · iexact Hlin

/-- All devices' allocation at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- The cells a device owes at launch, each once. -/
def oweCells (c : Dev nD) : List (Dev nD × CK) :=
  [(peer 0 c, kbar), (peer 1 c, kbar), (peer 2 c, kbar), (peer 0 c, krcv 0 c), (peer 1 c, krcv 0 c), (peer 2 c, krcv 0 c),
    (peer 0 c, krcv 1 c), (peer 1 c, krcv 1 c), (peer 2 c, krcv 1 c)]

/-- What a device owes, as cells and amounts. -/
theorem oweAll_eq (c : Dev nD) : oweAll c = (oweCells c).map fun ck => (kcell ck, amountK ck.2) := rfl

/-- How often a cell is listed. -/
def cnt (l : List (Dev nD × CK)) (ck : Dev nD × CK) : ℕ := l.countP fun p => decide (p = ck)

/-- What a list of cells owes one of them: that cell's amount, once for each time it is listed. -/
theorem tally_cells (l : List (Dev nD × CK)) (ck : Dev nD × CK) :
    tally (l.map fun ck => (kcell ck, amountK ck.2)) (kcell ck) () = cnt l ck * amountK ck.2 := by
  induction l with
  | nil => simp [tally, cnt]
  | cons p l ih =>
    rw [List.map_cons, tally, Pi.add_apply, Finsupp.add_apply, ih, tallyAt_apply]
    unfold cnt
    rw [List.countP_cons]
    by_cases h : p = ck
    · subst h; rw [if_pos ⟨rfl, rfl⟩, if_pos (decide_eq_true rfl), Nat.add_mul, Nat.one_mul]
    · rw [if_neg (fun h' => h (kcell_injective h'.1).symm), if_neg (fun h' => h (of_decide_eq_true h')), Nat.add_zero, Nat.add_zero]

/-- How much a device owes a cell. -/
theorem owed_cell (c d : Dev nD) (k : CK) : O₀ d (cell c k) () = cnt (oweCells d) (c, k) * amountK k := by
  unfold O₀; rw [oweAll_eq]; exact tally_cells (oweCells d) (c, k)

/-- Three devices owe a barrier. -/
theorem count_bar (c : Dev nD) : ∑ d : Dev nD, cnt (oweCells d) (c, kbar) = 3 := by revert c; decide +kernel
/-- One device owes a landing. -/
theorem count_rcv (c : Dev nD) (g : Fin 2) (k : Fin 3) : ∑ d : Dev nD, cnt (oweCells d) (c, krcv g (peer k c)) = 1 := by revert c g k; decide +kernel

/-- The credit at a cell is what all the devices owe it. -/
theorem launch_cell (c : Dev nD) (k : CK) (n a : ℕ) (h : ∑ d : Dev nD, cnt (oweCells d) (c, k) = n) (ha : n * amountK k = a) :
    tallyOn (cell c k) (launchCredit (Pipeline.owing O₀) 0 (cell c k)) = (tallyAt (cell c k) () a : CellTallies nD τ sig Unit) := by
  unfold tallyAt; refine congrArg _ (Finsupp.ext fun u => ?_); cases u
  rw [Pipeline.launchCredit_owing, Finsupp.single_eq_same, Finset.sum_congr rfl fun d _ => owed_cell c d k, ← Finset.sum_mul, h, ha]

/-- The semaphores a device waits on credit owed by others. -/
def crdSem (c : Dev nD) : Unit ⊕ (Fin 2 × Fin 3) → SemLoc sig
  | .inl _ => csem kbar
  | .inr gk => csem (krcv gk.1 (peer gk.2 c))

/-- The credited semaphores differ. -/
theorem crdSem_inj (c : Dev nD) : Function.Injective (crdSem c) := by
  have h : ∀ (c : Dev nD) a b, crdSem c a = crdSem c b → a = b := by decide
  exact fun a b => h c a b

omit [FloatOps F] [Named F] in
/-- The launch's credits are a device's credits. -/
theorem creds (c : Dev nD) : (Pipeline.launchCred O₀ c : sProp 𝕄) ⊢ crds c := by
  unfold Pipeline.launchCred crds
  refine (bigSep_subset (Finset.subset_univ (Finset.univ.map ⟨crdSem c, crdSem_inj c⟩))).trans ?_
  rw [bigSep_map, bigSep_univ_sum]
  refine BI.sep_mono ?_ (bigSep_mono fun gk _ => ?_)
  · refine (bigSep_elim (Finset.mem_univ ())).trans (Entails.of_eq (congrArg cred ?_))
    exact launch_cell c kbar 3 3 (count_bar c) rfl
  · exact Entails.of_eq (congrArg cred (launch_cell c (krcv gk.1 (peer gk.2 c)) 1 N (count_rcv c gk.1 gk.2) (Nat.one_mul _)))

/-! ## The side conditions -/

/-- A device's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The body's start, from the launch. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- The launch's end, from the body. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨HP, HV, Hu, Ho⟩
  isplitl [Hu]; · iexact Hu
  isplitl [Ho]; · iexact Ho
  isplitl [HP]; · iexact HP
  iexact HV

/-- A staging semaphore is none of the kernel's cells. -/
theorem kindOf_none (sl : SemLoc sig) (h : ∀ k, csem k ≠ sl) : kindOf sl = none := by
  unfold kindOf; exact dif_neg fun ⟨k, hk⟩ => h k hk

/-- The windows' own waits are allowed. -/
theorem waits (c : Dev nD) : (levAts L lv : sProp 𝕄) ⊢ Pipeline.cellsWaits cfgs (dats m ρ) () 0 c :=
  Pipeline.cellsWaits_intro cfgs (dats m ρ) () 0 c fun w s t => by
    have hk : kindOf (SemLoc.dma (((cfgs 0).win w).sem s)) = none := by
      apply kindOf_none; fin_cases w <;> fin_cases s <;> decide
    rcases t with ⟨_ | _, ht⟩
    · exact mayWait_list c _ 0 (oweAll c) (by dsimp only [lv]; rw [hk]) (oweAll_above c)
    · show (levAts L lv : sProp 𝕄) ⊢ MayWait (c : Thread nD τ) (.dma (((cfgs 0).win w).sem s)) () 0
      rw [MayWait_zero]; iintro -; iempintro

/-! ## The run -/

/-- A window's array after the run. -/
def finalA (c : Dev nD) (w : Fin cfg0.W) : Buf (Elt F) ((cfg0.win w).arr.view.loc (c : Thread nD τ)) := (dats m ρ 0 c).arrAt w cfg0.N

/-- The end: every window's array holds what the data says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, at any floats, from any memory whose counters are zero: the run ends, each window's array
    is what the data says, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run is what it was. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- The result's array after the run is the kernel's output. -/
theorem finalA_out (c : Dev nD) : finalA m ρ c (5 : Fin 6) = outAt m ρ c := by
  refine (dats m ρ 0 c).arrAt_eq_of_after_last (5 : Fin 6) t0_0 (by decide +kernel) _ fun j => ?_
  rfl

end Cert.KernelIdeal.Exchange

end
-- ==== Proof.Softmax.lean ====
/-
A softmax average cut in four blocks, over the extended reals. Each block gives its maximum, the sum of its exponentials and
the sum of its exponentials times the values, all relative to its own maximum; scaled by the exponential of the block's
maximum minus the greatest of the four, they add up to the sums over all the blocks. Nothing is asked of the scores or the
values: where the greatest maximum is infinite, every exponential on both sides is zero.
-/
module

public import Idealize.ShloMosaic.Lib.Pointwise

@[expose] public section

noncomputable section

namespace Cert.Softmax

open Idealize.ShloMosaic
open scoped BigOperators

/-- The word of minus infinity denotes the least extended real. -/
theorem ofBits_neg_inf : Ideal.ofBits .f32 0xFF800000#32 = ⊥ := by simp [Ideal.ofBits, Ideal.ieee]

/-- The exponential of minus infinity. -/
theorem exp_bot : Ideal.exp ⊥ = 0 := rfl

/-- Two exponentials of differences compose, if the three values grow. -/
theorem exp_sub_mul_exp_sub {a b c : EReal} (hab : a ≤ b) (hbc : b ≤ c) :
    Ideal.exp (a - b) * Ideal.exp (b - c) = Ideal.exp (a - c) := by
  induction c using EReal.rec with
  | bot =>
    obtain rfl := le_bot_iff.mp hbc
    obtain rfl := le_bot_iff.mp hab
    simp [exp_bot, sub_eq_add_neg]
  | top => simp [exp_bot, sub_eq_add_neg]
  | coe c =>
    induction b using EReal.rec with
    | bot =>
      obtain rfl := le_bot_iff.mp hab
      simp [exp_bot, sub_eq_add_neg]
    | top => exact absurd hbc (by simp)
    | coe b =>
      induction a using EReal.rec with
      | bot => simp [exp_bot, sub_eq_add_neg]
      | top => exact absurd hab (by simp)
      | coe a =>
        rw [← EReal.coe_sub, ← EReal.coe_sub, ← EReal.coe_sub]
        show ((Real.exp (a - b) : ℝ) : EReal) * ((Real.exp (b - c) : ℝ) : EReal) = ((Real.exp (a - c) : ℝ) : EReal)
        rw [← EReal.coe_mul, ← Real.exp_add, sub_add_sub_cancel]

/-- An exponential is not negative. -/
theorem exp_nonneg (a : EReal) : 0 ≤ Ideal.exp a := by
  induction a using EReal.rec with
  | bot => exact le_refl _
  | top => exact le_top
  | coe a => exact EReal.coe_nonneg.mpr (Real.exp_pos a).le

/-- The exponential of a difference to something greater is finite. -/
theorem exp_sub_ne_top {b c : EReal} (hbc : b ≤ c) : Ideal.exp (b - c) ≠ ⊤ := by
  induction c using EReal.rec with
  | bot =>
    obtain rfl := le_bot_iff.mp hbc
    simp [exp_bot, sub_eq_add_neg]
  | top => simp [exp_bot, sub_eq_add_neg]
  | coe c =>
    induction b using EReal.rec with
    | bot => simp [exp_bot, sub_eq_add_neg]
    | top => exact absurd hbc (by simp)
    | coe b =>
      rw [← EReal.coe_sub]
      exact EReal.coe_ne_top (Real.exp (b - c))

/-- A finite factor that is not negative goes into a sum. -/
theorem sum_mul_of_nonneg {ι : Type} (S : Finset ι) (f : ι → EReal) {w : EReal} (hw : 0 ≤ w) (hw' : w ≠ ⊤) :
    (∑ j ∈ S, f j) * w = ∑ j ∈ S, f j * w := by
  classical
  induction S using Finset.induction_on with
  | empty => simp
  | insert a S ha ih =>
    rw [Finset.sum_insert ha, Finset.sum_insert ha, EReal.right_distrib_of_nonneg_of_ne_top hw hw', ih]

variable {T : ℕ}

/-- A block's maximum. -/
def peak (s : Fin T → EReal) : EReal := Finset.univ.fold max ⊥ s

/-- Every score is at most its block's maximum. -/
theorem le_peak (s : Fin T → EReal) (j : Fin T) : s j ≤ peak s := Finset.le_sup (f := s) (Finset.mem_univ j)

/-- What is above every score is above the maximum. -/
theorem peak_le (s : Fin T → EReal) {b : EReal} (h : ∀ j, s j ≤ b) : peak s ≤ b := Finset.sup_le fun j _ => h j

/-- The greatest of four. -/
def greatest (m : Fin 4 → EReal) : EReal := max (max (max (m 0) (m 1)) (m 2)) (m 3)

/-- Each of the four is at most the greatest. -/
theorem le_greatest (m : Fin 4 → EReal) (b : Fin 4) : m b ≤ greatest m := by
  unfold greatest
  fin_cases b <;> simp

/-- A block's sum, scaled from its own maximum to a greater one. -/
theorem rescale (s a : Fin T → EReal) {M : EReal} (h : peak s ≤ M) :
    (∑ j, Ideal.exp (s j - peak s) * a j) * Ideal.exp (peak s - M) = ∑ j, Ideal.exp (s j - M) * a j := by
  rw [sum_mul_of_nonneg _ _ (exp_nonneg _) (exp_sub_ne_top h)]
  refine Finset.sum_congr rfl fun j _ => ?_
  rw [mul_right_comm, exp_sub_mul_exp_sub (le_peak s j) h]

/-- The same for the sum of the exponentials alone. -/
theorem rescale_one (s : Fin T → EReal) {M : EReal} (h : peak s ≤ M) :
    (∑ j, Ideal.exp (s j - peak s)) * Ideal.exp (peak s - M) = ∑ j, Ideal.exp (s j - M) := by
  simpa only [mul_one] using rescale s (fun _ => 1) h

/-- Four blocks' numbers weighted to the greatest of the four maxima and added. -/
def weigh (m o : Fin 4 → EReal) : EReal :=
  o 0 * Ideal.exp (m 0 - greatest m) + o 1 * Ideal.exp (m 1 - greatest m) + o 2 * Ideal.exp (m 2 - greatest m)
    + o 3 * Ideal.exp (m 3 - greatest m)

/-- Block `b` of `4 * T` entries. -/
def blk {N : ℕ} (hN : 4 * T = N) (s : Fin N → EReal) (b : Fin 4) (j : Fin T) : EReal :=
  s ⟨b.val * T + j.val, by
    have hb := b.isLt; have hj := j.isLt
    calc b.val * T + j.val < b.val * T + T := by omega
      _ = (b.val + 1) * T := by rw [Nat.add_mul, Nat.one_mul]
      _ ≤ 4 * T := Nat.mul_le_mul_right _ hb
      _ = N := hN⟩

/-- The greatest of the four blocks' maxima is the maximum. -/
theorem greatest_peak {N : ℕ} (hN : 4 * T = N) (s : Fin N → EReal) : greatest (fun b => peak (blk hN s b)) = peak s := by
  apply le_antisymm
  · have h : ∀ b, peak (blk hN s b) ≤ peak s := fun b => peak_le _ fun j => le_peak s _
    exact max_le (max_le (max_le (h 0) (h 1)) (h 2)) (h 3)
  · refine peak_le _ fun i => ?_
    have hT : 0 < T := by have := i.isLt; omega
    have hi : i.val / T < 4 := Nat.div_lt_of_lt_mul (by have := i.isLt; rw [Nat.mul_comm]; omega)
    have e : s i = blk hN s ⟨i.val / T, hi⟩ ⟨i.val % T, Nat.mod_lt _ hT⟩ := by
      unfold blk
      congr 1
      exact Fin.ext (Nat.div_add_mod' _ _).symm
    rw [e]
    exact (le_peak _ _).trans (le_greatest (fun b => peak (blk hN s b)) _)

/-- The weighted sum of the four blocks' sums is the sum over all. -/
theorem weigh_sum {N : ℕ} (hN : 4 * T = N) (s a : Fin N → EReal) :
    weigh (fun b => peak (blk hN s b)) (fun b => ∑ j, Ideal.exp (blk hN s b j - peak (blk hN s b)) * blk hN a b j)
      = ∑ i, Ideal.exp (s i - peak s) * a i := by
  have h : ∀ b, peak (blk hN s b) ≤ peak s := fun b => peak_le _ fun j => le_peak s _
  unfold weigh
  rw [greatest_peak, rescale _ _ (h 0), rescale _ _ (h 1), rescale _ _ (h 2), rescale _ _ (h 3), Fin.sum_univ_tiles 4 T hN,
    Fin.sum_univ_four]
  rfl

/-- The same for the sums of the exponentials alone. -/
theorem weigh_sum_one {N : ℕ} (hN : 4 * T = N) (s : Fin N → EReal) :
    weigh (fun b => peak (blk hN s b)) (fun b => ∑ j, Ideal.exp (blk hN s b j - peak (blk hN s b)))
      = ∑ i, Ideal.exp (s i - peak s) := by
  simpa only [blk, mul_one] using weigh_sum hN s (fun _ => 1)

end Cert.Softmax

end
-- ==== Proof.Values.lean ====
/-
What the kernel computes, entry by entry, over the extended reals: a device's scores, maxima, sums and outputs from its
arguments, the four packets combined, and the result.
-/
module

public import proofs.«01_k».proof.Proof.KernelIdealParts
public import proofs.«01_k».proof.Proof.Softmax

@[expose] public section

set_option maxRecDepth 16384

noncomputable section

namespace Cert.KernelIdeal.Exchange

open Cert.KernelIdeal Cert.KernelIdeal.Gen Cert.Softmax
open Idealize.ShloMosaic Idealize.ShloMosaic.TcCoe
open scoped BigOperators

/-! ## The arguments, as the body reads them -/

section Inputs

variable (m : (ℓ : Loc nD τ sig) → Buf (Elt Ideal) ℓ) (ρ : Dev nD → PrngReg) (c : Dev nD)

/-- Device `c`'s arguments. -/
abbrev argX : FVec Ideal S1x256x1024 .f32 := m ((c : Thread nD τ).loc main_arg0)
/-- Device `c`'s query projection. -/
abbrev argWq : FVec Ideal S1024x1024 .f32 := m ((c : Thread nD τ).loc main_arg1)
/-- Device `c`'s keys. -/
abbrev argK : FVec Ideal S1x4096x2x128 .f32 := m ((c : Thread nD τ).loc main_arg2)
/-- Device `c`'s values. -/
abbrev argV : FVec Ideal S1x4096x2x128 .f32 := m ((c : Thread nD τ).loc main_arg3)
/-- Device `c`'s output projection. -/
abbrev argWo : FVec Ideal S1024x1024 .f32 := m ((c : Thread nD τ).loc main_arg4)

/-- A block that is a whole array reads the array: the five inputs. -/
theorem xV_eq : xV m ρ c = argX m c := by
  funext i
  refine congrArg (argX m c) (funext fun a => Fin.ext ?_)
  fin_cases a <;> exact (ValueKit.view_emb_slice_whole_unit_val main_arg0 _ _ _ i _).trans (Nat.zero_add _)
/-- The block of the query projection is the whole. -/
theorem wqV_eq : wqV m ρ c = argWq m c := by
  funext i
  refine congrArg (argWq m c) (funext fun a => Fin.ext ?_)
  fin_cases a <;> exact (ValueKit.view_emb_slice_whole_unit_val main_arg1 _ _ _ i _).trans (Nat.zero_add _)
/-- The block of the output projection is the whole. -/
theorem woV_eq : woV m ρ c = argWo m c := by
  funext i
  refine congrArg (argWo m c) (funext fun a => Fin.ext ?_)
  fin_cases a <;> exact (ValueKit.view_emb_slice_whole_unit_val main_arg4 _ _ _ i _).trans (Nat.zero_add _)
/-- The block of the keys is the whole. -/
theorem kV_eq : kV m ρ c = argK m c := by
  funext i
  refine congrArg (argK m c) (funext fun a => Fin.ext ?_)
  fin_cases a <;> exact (ValueKit.view_emb_slice_whole_unit_val main_arg2 _ _ _ i _).trans (Nat.zero_add _)
/-- The block of the values is the whole. -/
theorem vV_eq : vV m ρ c = argV m c := by
  funext i
  refine congrArg (argV m c) (funext fun a => Fin.ext ?_)
  fin_cases a <;> exact (ValueKit.view_emb_slice_whole_unit_val main_arg3 _ _ _ i _).trans (Nat.zero_add _)

/-- The loads of the whole queries' operands. -/
theorem ldX_eq : ldX m ρ c = argX m c := by
  rw [← xV_eq m ρ c]
  exact Memref.readAt_unit_zero (Elt Ideal) cc0_stg0_0 (by funext a; fin_cases a <;> rfl) _ _
/-- The load of the query projection is the whole. -/
theorem ldWq_eq : ldWq m ρ c = argWq m c := by
  rw [← wqV_eq m ρ c]
  exact Memref.readAt_unit_zero (Elt Ideal) cc0_stg1_0 (by funext a; fin_cases a <;> rfl) _ _

/-- The loads of one head's keys and values. -/
theorem ldK0_apply (j : Fin 4096) (d : Fin 128) : ldK0 m ρ c (ix4 0 j 0 d) = argK m c (ix4 0 j 0 d) := by
  rw [← kV_eq m ρ c]
  refine congrArg (kV m ρ c) (funext fun a => Fin.ext ?_)
  fin_cases a <;> exact (ValueKit.rect_emb_unit_val _ _ _ _ _).trans (Nat.zero_add _)
/-- Group 0's values. -/
theorem ldV0_apply (j : Fin 4096) (d : Fin 128) : ldV0 m ρ c (ix4 0 j 0 d) = argV m c (ix4 0 j 0 d) := by
  rw [← vV_eq m ρ c]
  refine congrArg (vV m ρ c) (funext fun a => Fin.ext ?_)
  fin_cases a <;> exact (ValueKit.rect_emb_unit_val _ _ _ _ _).trans (Nat.zero_add _)
/-- Group 1's keys. -/
theorem ldK1_apply (j : Fin 4096) (d : Fin 128) : ldK1 m ρ c (ix4 0 j 0 d) = argK m c (ix4 0 j 1 d) := by
  rw [← kV_eq m ρ c]
  refine congrArg (kV m ρ c) (funext fun a => Fin.ext ?_)
  fin_cases a <;> first | exact (ValueKit.rect_emb_unit_val _ _ _ _ _).trans (Nat.zero_add _) | rfl
/-- Group 1's values. -/
theorem ldV1_apply (j : Fin 4096) (d : Fin 128) : ldV1 m ρ c (ix4 0 j 0 d) = argV m c (ix4 0 j 1 d) := by
  rw [← vV_eq m ρ c]
  refine congrArg (vV m ρ c) (funext fun a => Fin.ext ?_)
  fin_cases a <;> first | exact (ValueKit.rect_emb_unit_val _ _ _ _ _).trans (Nat.zero_add _) | rfl

/-- Row `128 h + d` of the output projection. -/
theorem woR_apply (h : Fin 8) (d : Fin 128) (e : Fin 1024) :
    woR m ρ c h (ix2 d e) = argWo m c (ix2 (⟨h.val * 128 + d.val, by omega⟩ : Fin 1024) e) := by
  rw [← woV_eq m ρ c]
  refine congrArg (woV m ρ c) (funext fun a => Fin.ext ?_)
  fin_cases a
  · exact (ValueKit.rect_emb_unit_val _ _ _ _ _).trans (congrArg (· + d.val) (Nat.mul_comm 128 h.val))
  · exact (ValueKit.rect_emb_unit_val _ _ _ _ _).trans (Nat.zero_add _)

end Inputs

/-! ## The packets, entry by entry -/

section Packets

variable (m : (ℓ : Loc nD τ sig) → Buf (Elt Ideal) ℓ) (ρ : Dev nD → PrngReg) (c : Dev nD)

/-- Head `hl` of group `g`. -/
def hd (g : Fin 2) (hl : Fin 4) : Fin 8 := ⟨g.val * 4 + hl.val, by omega⟩
/-- The row of query `i` of head `hl` in its group. -/
def row (hl : Fin 4) (i : Fin 256) : Fin 1024 := ⟨hl.val * 256 + i.val, by omega⟩
/-- The group of a head. -/
def grp (h : Fin 8) : Fin 2 := ⟨h.val / 4, by omega⟩
/-- Column `d` of head `h` among all the heads' columns. -/
def col (h : Fin 8) (d : Fin 128) : Fin 1024 := ⟨h.val * 128 + d.val, by omega⟩

/-- The number by which the scores are scaled: one over the root of the heads' length. -/
abbrev scale : EReal := (((Real.sqrt 128)⁻¹ : ℝ) : EReal)
/-- The kernel's named constant is that number. -/
theorem named_scale : Named.named (F := Ideal) κ "inv_sqrt_dh" (φ := .f32) 0x3DB504F3#32 = scale :=
  IdealRules.named_const.ideal_named_scalar _ _ _ _ rfl

/-- A score of head `h`: query `i` with device `c`'s key `j`. -/
def score (h : Fin 8) (i : Fin 256) (j : Fin 4096) : EReal :=
  (∑ d : Fin 128, (∑ k : Fin 1024, argX m c (ix3 0 i k) * argWq m c (ix2 k (col h d))) * argK m c (ix4 0 j (grp h) d)) * scale

/-- A query entry: the product of the input with the query projection. -/
theorem pay1_apply (x : Vec Ideal S1x256x1024 .f32) (w : Vec Ideal S1024x1024 .f32) (i : Fin 256) (e : Fin 1024) :
    k0_pay1 x w (ix2 i e) = ∑ k, x (ix3 0 i k) * w (ix2 k e) := by
  pointwise [k0_pay1]

/-- There are two groups. -/
theorem two (g : Fin 2) : g = 0 ∨ g = 1 := by revert g; decide
/-- A head of a group is of that group. -/
theorem grp_hd (g : Fin 2) (hl : Fin 4) : grp (hd g hl) = g := by revert g hl; decide

/-- The scores of group 0 and of group 1. -/
theorem pay3_score (hl : Fin 4) (i : Fin 256) (j : Fin 4096) :
    k0_pay3 (ldX m ρ c) (ldWq m ρ c) (ldK0 m ρ c) (ix2 (row hl i) j) = score m c (hd 0 hl) i j := by
  pointwise [k0_pay3]
  simp only [pay1_apply, ldX_eq, ldWq_eq, ldK0_apply]
  have e1 : ∀ p, (⟨(row hl i).val % 256, p⟩ : Fin 256) = i := fun p => Fin.ext (by simp only [row]; omega)
  have e2 : ∀ d : Fin 128, ∀ p, (⟨(row hl i).val / 256 * 128 + d.val, p⟩ : Fin 1024) = col (hd 0 hl) d :=
    fun d p => Fin.ext (by simp only [row, col, hd]; omega)
  simp only [e1, e2, named_scale]
  unfold score
  rw [grp_hd]
/-- Group 1's scores. -/
theorem pay9_score (hl : Fin 4) (i : Fin 256) (j : Fin 4096) :
    k0_pay9 (qV m ρ c) (ldK1 m ρ c) (ix2 (row hl i) j) = score m c (hd 1 hl) i j := by
  pointwise [k0_pay9, qV]
  simp only [pay1_apply, ldX_eq, ldWq_eq, ldK1_apply]
  have e1 : ∀ p, (⟨(row hl i).val % 256, p⟩ : Fin 256) = i := fun p => Fin.ext (by simp only [row]; omega)
  have e2 : ∀ d : Fin 128, ∀ p, (⟨512 + ((row hl i).val / 256 * 128 + d.val), p⟩ : Fin 1024) = col (hd 1 hl) d :=
    fun d p => Fin.ext (by simp only [row, col, hd]; omega)
  simp only [e1, e2, named_scale]
  unfold score
  rw [grp_hd]

/-- The greatest score of a row, group 0 and group 1. -/
theorem pay4_peak (hl : Fin 4) (i : Fin 256) :
    k0_pay4 (ldX m ρ c) (ldWq m ρ c) (ldK0 m ρ c) (ix2 (row hl i) 0) = peak (score m c (hd 0 hl) i) := by
  pointwise [k0_pay4]
  simp only [pay3_score, ofBits_neg_inf]
  rfl
/-- The greatest score of a row of group 1. -/
theorem pay10_peak (hl : Fin 4) (i : Fin 256) :
    k0_pay10 (qV m ρ c) (ldK1 m ρ c) (ix2 (row hl i) 0) = peak (score m c (hd 1 hl) i) := by
  pointwise [k0_pay10]
  simp only [pay9_score, ofBits_neg_inf]
  rfl

/-- A packet's maximum. -/
theorem pktM_apply (g : Fin 2) (hl : Fin 4) (i : Fin 256) : pktM m ρ c g (ix2 (row hl i) 0) = peak (score m c (hd g hl) i) := by
  unfold pktM
  obtain rfl | rfl := two g
  · rw [if_pos rfl]
    pointwise [k0_pay7]
    exact pay4_peak m ρ c hl i
  · rw [if_neg (by decide)]
    pointwise [k0_pay15]
    exact pay10_peak m ρ c hl i

/-- A packet's sum of exponentials. -/
theorem pktL_apply (g : Fin 2) (hl : Fin 4) (i : Fin 256) :
    pktL m ρ c g (ix2 (row hl i) 0) = ∑ j, Ideal.exp (score m c (hd g hl) i j - peak (score m c (hd g hl) i)) := by
  unfold pktL
  obtain rfl | rfl := two g
  · rw [if_pos rfl]
    pointwise [k0_pay8, k0_pay5]
    simp only [pay3_score, pay4_peak]
  · rw [if_neg (by decide)]
    pointwise [k0_pay16, k0_pay12, k0_pay11]
    simp only [pay9_score, pay10_peak]

/-- A packet's sum of exponentials times values. -/
theorem pktO_apply (g : Fin 2) (hl : Fin 4) (i : Fin 256) (d : Fin 128) :
    pktO m ρ c g (ix2 (row hl i) d)
      = ∑ j, Ideal.exp (score m c (hd g hl) i j - peak (score m c (hd g hl) i)) * argV m c (ix4 0 j g d) := by
  unfold pktO
  obtain rfl | rfl := two g
  · rw [if_pos rfl]
    pointwise [k0_pay6, k0_pay5, k0_pay2]
    simp only [pay3_score, pay4_peak, ldV0_apply]
  · rw [if_neg (by decide)]
    pointwise [k0_pay14, k0_pay13, k0_pay11]
    simp only [pay9_score, pay10_peak, ldV1_apply]

end Packets

/-! ## The received packets and the result -/

section Result

variable (m : (ℓ : Loc nD τ sig) → Buf (Elt Ideal) ℓ) (ρ : Dev nD → PrngReg) (c s : Dev nD) (g : Fin 2) (r : Fin 1024)

/-- A read of slot `s`, group `g`, at row `r` and column `b` onwards, is device `s`'s packet entry there. -/
theorem rcv_entry {n : ℕ} (b : ℕ) (inb : ∀ a, (![s.val, 1024 * g.val, b] : Fin 3 → Nat) a + (⟨3, ![1, 1024, n]⟩ : Shape).size a ≤ S4x2048x130.size a)
    (d : Fin n) (hd : b + d.val < 130) :
    rM.view.readAt (Elt Ideal) (Rect.unit (s := S4x2048x130) ![s.val, 1024 * g.val, b] (⟨3, ![1, 1024, n]⟩ : Shape).size inb).toLoadRect (rcvV m ρ) (ix3 0 r d)
      = pktAt m ρ s ⟨1024 * g.val + r.val, by omega⟩ ⟨b + d.val, hd⟩ := by
  have hx : ∀ a, (((Rect.unit (s := S4x2048x130) ![s.val, 1024 * g.val, b] (⟨3, ![1, 1024, n]⟩ : Shape).size inb).idx (ix3 0 r d)) a).val
      = (![s.val, 1024 * g.val, b] : Fin 3 → Nat) a + ((ix3 (0 : Fin 1) r d : (⟨3, ![1, 1024, n]⟩ : Shape).Idx) a).val := fun a => ValueKit.rect_emb_unit_val _ _ _ _ _
  show pktAt m ρ _ _ _ = _
  congr 1
  · exact Fin.ext (hx 1)
  · exact Fin.ext (hx 2)

/-- A row's group in the packet. -/
theorem row_div (p) : (⟨(1024 * g.val + r.val) / 1024, p⟩ : Fin 2) = g := Fin.ext (by show (1024 * g.val + r.val) / 1024 = g.val; omega)
/-- A row's place in its group. -/
theorem row_mod (p) : (⟨(1024 * g.val + r.val) % 1024, p⟩ : Fin 1024) = r := Fin.ext (by show (1024 * g.val + r.val) % 1024 = r.val; omega)

/-- What is read of slot `s` is device `s`'s packet. -/
theorem rcvO_apply (d : Fin 128) : rcvO m ρ s g (ix3 0 r d) = pktO m ρ s g (ix2 r d) := by
  refine (rcv_entry m ρ s g r 0 _ d (by omega)).trans ?_
  unfold pktAt
  rw [dif_pos (by show 0 + d.val < 128; omega), row_div, row_mod, ix2_eq_valueIdx]
  congr 2
  exact Fin.ext (Nat.zero_add _)
/-- The maximum read of slot `s` is device `s`'s. -/
theorem rcvM_apply : rcvM m ρ s g (ix3 0 r 0) = pktM m ρ s g (ix2 r 0) := by
  refine (rcv_entry m ρ s g r 128 _ 0 (by decide)).trans ?_
  unfold pktAt
  rw [dif_neg (by decide), if_pos (by decide), row_div, row_mod, ix2_eq_valueIdx]
/-- The sum read of slot `s` is device `s`'s. -/
theorem rcvL_apply : rcvL m ρ s g (ix3 0 r 0) = pktL m ρ s g (ix2 r 0) := by
  refine (rcv_entry m ρ s g r 129 _ 0 (by decide)).trans ?_
  unfold pktAt
  rw [dif_neg (by decide), if_neg (by decide), row_div, row_mod, ix2_eq_valueIdx]

/-- The combined output of a group's row. -/
def att (d : Fin 128) : EReal :=
  Ideal.div (weigh (fun s => pktM m ρ s g (ix2 r 0)) (fun s => pktO m ρ s g (ix2 r d)))
    (weigh (fun s => pktM m ρ s g (ix2 r 0)) (fun s => pktL m ρ s g (ix2 r 0)))

/-- Group 0's attention. -/
theorem a27_apply (d : Fin 128) : a27 m ρ (ix2 r d) = att m ρ 0 r d := by
  pointwise [a27, k0_pay27, a24, k0_pay24, a25, k0_pay25, a26, k0_pay26, k0_pay23, a20, k0_pay20, a21, k0_pay21, a22, k0_pay22, k0_pay18, k0_pay19]
  simp only [rcvO_apply, rcvM_apply, rcvL_apply]
  rfl
/-- Group 1's attention. -/
theorem a38_apply (d : Fin 128) : a38 m ρ (ix2 r d) = att m ρ 1 r d := by
  pointwise [a38, k0_pay38, a31, k0_pay31, a32, k0_pay32, a33, k0_pay33, a34, k0_pay34, k0_pay35, a36, k0_pay36, a37, k0_pay37, k0_pay30]
  simp only [rcvO_apply, rcvM_apply, rcvL_apply]
  rfl

/-- The result at an entry: the eight heads' parts of the product with the output projection. -/
theorem outAt_apply (i : Fin 256) (e : Fin 1024) :
    outAt m ρ c (ix3 0 i e)
      = ∑ h : Fin 8, ∑ d : Fin 128, att m ρ (grp h) (row ⟨h.val % 4, Nat.mod_lt _ (by decide)⟩ i) d * argWo m c (ix2 (col h d) e) := by
  have h39 : ∀ (i : Fin 256) (d : Fin 128), a39 m ρ (ix2 i d) = a38 m ρ (ix2 ⟨i.val, by omega⟩ d) := by
    intro i d
    pointwise [a39, k0_pay39, a38]
  pointwise [outAt, k0_pay40, a29, k0_pay29, a28, k0_pay28, k0_pay17]
  simp only [h39, a27_apply, a38_apply, woR_apply]
  rw [show k0_pay27 (a20 m ρ) (a21 m ρ) (a22 m ρ) (a24 m ρ) (a25 m ρ) (a26 m ρ) (rcvO m ρ 1 0) (rcvL m ρ 1 0) (rcvO m ρ 2 0) (rcvL m ρ 2 0) (rcvO m ρ 3 0) (rcvL m ρ 3 0) = a27 m ρ from rfl, Fin.sum_univ_eight]
  simp only [a27_apply]
  have h0 : ∀ p, row 0 i = ⟨i.val, p⟩ := fun p => Fin.ext (Nat.zero_add _)
  show _ = (∑ d, att m ρ 0 (row 0 i) d * argWo m c (ix2 (col 0 d) e)) + (∑ d, att m ρ 0 (row 1 i) d * argWo m c (ix2 (col 1 d) e))
    + (∑ d, att m ρ 0 (row 2 i) d * argWo m c (ix2 (col 2 d) e)) + (∑ d, att m ρ 0 (row 3 i) d * argWo m c (ix2 (col 3 d) e))
    + (∑ d, att m ρ 1 (row 0 i) d * argWo m c (ix2 (col 4 d) e)) + (∑ d, att m ρ 1 (row 1 i) d * argWo m c (ix2 (col 5 d) e))
    + (∑ d, att m ρ 1 (row 2 i) d * argWo m c (ix2 (col 6 d) e)) + (∑ d, att m ρ 1 (row 3 i) d * argWo m c (ix2 (col 7 d) e))
  rw [h0]
  rfl

end Result

end Cert.KernelIdeal.Exchange

end
-- ==== Proof.Reference.lean ====
/-
The reference's result, stage by stage and entry by entry, over the extended reals.
-/
module

public import proofs.«01_k».proof.Proof.Gen.ReferenceIdeal
public import Idealize.ShloMosaic.Lib.Pointwise

@[expose] public section

set_option maxRecDepth 16384

noncomputable section

namespace Cert.ReferenceIdeal.Meaning

open Cert.ReferenceIdeal Cert.ReferenceIdeal.Gen Idealize.ShloMosaic

variable (x : FVec Ideal S1x256x1024 .f32) (wq : FVec Ideal S1024x1024 .f32) (k v : FVec Ideal S1x16384x2x128 .f32) (wo : FVec Ideal S1024x1024 .f32)

/-- The queries, head by head. -/
def refQ : FVec Ideal S1x256x8x128 .f32 :=
  shapeCast _ (Host.dotGeneral dot_S1x256x1024_S1024x1024_S1x256x1024_2_0_01_1_n_n none x wq) shapeCasts_S1x256x1024_S1x256x8x128
/-- Keys or values, each of the two heads repeated four times. -/
def refKV : FVec Ideal S1x16384x8x128 .f32 :=
  shapeCast _ (broadcastInDim S1x16384x2x4x128 ![0, 1, 2, 4] bcast_S1x16384x2x128_S1x16384x2x4x128_0_1_2_4 k) shapeCasts_S1x16384x2x4x128_S1x16384x8x128
/-- The scores, divided by the root of the heads' length. -/
def refS : FVec Ideal S1x8x256x16384 .f32 :=
  Host.divf (Host.dotGeneral dot_S1x256x8x128_S1x16384x8x128_S1x8x256x16384_3_3_1_1_02_02 none (refQ x wq) (refKV k)) (broadcastInDim S1x8x256x16384 ![] bcast_S_S1x8x256x16384 (Host.sqrt (constant S_ .f32 0x43000000#32)))
/-- The greatest score of each row. -/
def refM : FVec Ideal S1x8x256 .f32 :=
  Host.reduce FloatOps.maximumf (refS x wq k) (constant S_ .f32 0xFF800000#32) reducesTo_S1x8x256x16384_S1x8x256_d3 h_S_
/-- The exponentials. -/
def refP : FVec Ideal S1x8x256x16384 .f32 :=
  Host.exp (subf (refS x wq k) (broadcastInDim S1x8x256x16384 ![0, 1, 2, 3] bcast_S1x8x256x1_S1x8x256x16384_0_1_2_3 (broadcastInDim S1x8x256x1 ![0, 1, 2] bcast_S1x8x256_S1x8x256x1_0_1_2 (refM x wq k))))
/-- The sum of each row's exponentials. -/
def refL : FVec Ideal S1x8x256 .f32 :=
  Host.reduceAdd (refP x wq k) (constant S_ .f32 0x00000000#32) reducesTo_S1x8x256x16384_S1x8x256_d3 h_S_
/-- The attention, head by head. -/
def refO : FVec Ideal S1x256x8x128 .f32 :=
  Host.divf (transpose S1x256x8x128 [0, 3, 1, 2] (Host.dotGeneral dot_S1x16384x8x128_S1x8x256x16384_S1x8x128x256_1_3_3_2_02_01 none (refKV v) (refP x wq k)) transposes_S1x8x128x256_S1x256x8x128_0_3_1_2)
    (broadcastInDim S1x256x8x128 ![0, 1, 2, 3] bcast_S1x256x8x1_S1x256x8x128_0_1_2_3 (transpose S1x256x8x1 [0, 2, 1, 3] (broadcastInDim S1x8x256x1 ![0, 1, 2] bcast_S1x8x256_S1x8x256x1_0_1_2 (refL x wq k)) transposes_S1x8x256x1_S1x256x8x1_0_2_1_3))
/-- The result. -/
def refOut : FVec Ideal S1x256x1024 .f32 :=
  Host.dotGeneral dot_S1x256x1024_S1024x1024_S1x256x1024_2_0_01_1_n_n none (shapeCast _ (refO x wq k v) shapeCasts_S1x256x8x128_S1x256x1024) wo

/-- A query entry. -/
theorem refQ_apply (i : Fin 256) (h : Fin 8) (d : Fin 128) :
    refQ x wq (ix4 0 i h d) = ∑ e : Fin 1024, x (ix3 0 i e) * wq (ix2 e ⟨h.val * 128 + d.val, by omega⟩) := by
  pointwise [refQ]
/-- A key or value entry as head `h` sees it. -/
theorem refKV_apply (j : Fin 16384) (h : Fin 8) (d : Fin 128) :
    refKV k (ix4 0 j h d) = k (ix4 0 j ⟨h.val / 4, by omega⟩ d) := by
  pointwise [refKV]
/-- The word of 128 denotes 128. -/
theorem word_128 : Ideal.ofBits .f32 0x43000000#32 = ((128 : ℝ) : EReal) := by
  simp [Ideal.ofBits, Ideal.ieee, -EReal.coe_mul]
  norm_num
/-- A quotient by the root of 128 is a product with its inverse. -/
theorem div_sqrt_128 (a : EReal) : Ideal.div a (Ideal.sqrt (Ideal.ofBits .f32 0x43000000#32)) = a * (((Real.sqrt 128)⁻¹ : ℝ) : EReal) := by
  have h : Ideal.sqrt (((128 : ℝ) : EReal)) = ((Real.sqrt 128 : ℝ) : EReal) :=
    (Ideal.sqrt_coe _).trans (if_neg (by norm_num))
  rw [word_128, h, Ideal.div_coe (Real.sqrt_pos.mpr (by norm_num)).ne', one_div]
/-- A score. -/
theorem refS_apply (i : Fin 256) (h : Fin 8) (j : Fin 16384) :
    refS x wq k (ix4 0 h i j) = (∑ d : Fin 128, refQ x wq (ix4 0 i h d) * refKV k (ix4 0 j h d)) * (((Real.sqrt 128)⁻¹ : ℝ) : EReal) := by
  pointwise [refS]
  exact div_sqrt_128 _
/-- A row's greatest score. -/
theorem refM_apply (i : Fin 256) (h : Fin 8) :
    refM x wq k (ix3 0 h i) = Finset.univ.fold max (Ideal.ofBits FTy.f32 0xFF800000#32) (fun j : Fin 16384 => refS x wq k (ix4 0 h i j)) := by
  pointwise [refM]
/-- An exponential. -/
theorem refP_apply (i : Fin 256) (h : Fin 8) (j : Fin 16384) :
    refP x wq k (ix4 0 h i j) = Ideal.exp (refS x wq k (ix4 0 h i j) - refM x wq k (ix3 0 h i)) := by
  pointwise [refP]
/-- A row's sum. -/
theorem refL_apply (i : Fin 256) (h : Fin 8) :
    refL x wq k (ix3 0 h i) = ∑ j : Fin 16384, refP x wq k (ix4 0 h i j) := by
  pointwise [refL]
/-- An attention entry. -/
theorem refO_apply (i : Fin 256) (h : Fin 8) (d : Fin 128) :
    refO x wq k v (ix4 0 i h d) = Ideal.div (∑ j : Fin 16384, refKV v (ix4 0 j h d) * refP x wq k (ix4 0 h i j)) (refL x wq k (ix3 0 h i)) := by
  pointwise [refO]
/-- A result entry. -/
theorem refOut_apply (i : Fin 256) (c : Fin 1024) :
    refOut x wq k v wo (ix3 0 i c)
      = ∑ e : Fin 1024, refO x wq k v (ix4 0 i ⟨e.val / 128, by omega⟩ ⟨e.val % 128, Nat.mod_lt _ (by decide)⟩) * wo (ix2 e c) := by
  pointwise [refOut]

end Cert.ReferenceIdeal.Meaning

end
-- ==== Proof.Agree.lean ====
/-
The kernel's result is the reference's: the four devices' scores are the four blocks of the reference's, so the combined
packets are the whole softmax attention, and the products with the output projection are the same sum.
-/
module

public import proofs.«01_k».proof.Defs
public import proofs.«01_k».proof.Proof.KernelIdealLaunch
public import proofs.«01_k».proof.Proof.Values
public import proofs.«01_k».proof.Proof.Reference
public import proofs.«01_k».proof.Proof.Gen.ReferenceIdeal.Run

@[expose] public section

set_option maxRecDepth 16384

noncomputable section

namespace Cert.Agree

open Idealize.ShloMosaic Idealize.SL.Sem
open Cert.Softmax Cert.KernelIdeal.Exchange Cert.ReferenceIdeal.Meaning
open scoped BigOperators

section Entries

variable (m : (ℓ : Loc Cert.KernelIdeal.nD Cert.KernelIdeal.τ Cert.KernelIdeal.sig) → Buf (Elt Ideal) ℓ) (ρ : Dev Cert.KernelIdeal.nD → PrngReg)
variable (x : FVec Ideal Cert.ReferenceIdeal.S1x256x1024 .f32) (wq : FVec Ideal Cert.ReferenceIdeal.S1024x1024 .f32)
  (k v : FVec Ideal Cert.ReferenceIdeal.S1x16384x2x128 .f32) (wo : FVec Ideal Cert.ReferenceIdeal.S1024x1024 .f32)

/-- Device `c`'s block of the keys or values, at an entry: the whole array at key `4096 c + j`. -/
theorem block_entry (a : FVec Ideal Cert.ReferenceIdeal.S1x16384x2x128 .f32) (c : Fin 4) (j : Fin 4096) (g : Fin 2) (d : Fin 128) :
    (Layout.block ⟨4, ![1, 4096, 2, 128]⟩ ⟨4, ![1, 16384, 2, 128]⟩ 1 4 c a) (ix4 0 j g d) = a (ix4 0 ⟨c.val * 4096 + j.val, by omega⟩ g d) := by
  refine congrArg a (funext fun b => Fin.ext ?_)
  fin_cases b <;> rfl

/-- A row of the reference's scores. -/
def scores (h : Fin 8) (i : Fin 256) (j : Fin 16384) : EReal := refS x wq k (ix4 0 h i j)
/-- A column of the reference's values, as head `h` sees it. -/
def vals (h : Fin 8) (d : Fin 128) (j : Fin 16384) : EReal := v (ix4 0 j (grp h) d)

variable (hx : ∀ c, argX m c = x) (hq : ∀ c, argWq m c = wq)
  (hk : ∀ c, argK m c = Layout.block ⟨4, ![1, 4096, 2, 128]⟩ ⟨4, ![1, 16384, 2, 128]⟩ 1 4 c k)
  (hv : ∀ c, argV m c = Layout.block ⟨4, ![1, 4096, 2, 128]⟩ ⟨4, ![1, 16384, 2, 128]⟩ 1 4 c v)
  (ho : ∀ c, argWo m c = wo)

include hx hq hk in
/-- A device's scores are its block of the reference's. -/
theorem score_blk (c : Fin 4) (h : Fin 8) (i : Fin 256) :
    score m c h i = blk (N := 16384) (T := 4096) rfl (scores x wq k h i) c := by
  funext j
  unfold score blk scores
  rw [refS_apply, hx, hq, hk]
  simp only [block_entry, refQ_apply, refKV_apply]
  rfl

include hv in
/-- A device's values are its block of the reference's. -/
theorem vals_blk (c : Fin 4) (h : Fin 8) (d : Fin 128) :
    (fun j : Fin 4096 => argV m c (ix4 0 j (grp h) d)) = blk (N := 16384) (T := 4096) rfl (vals v h d) c := by
  funext j
  unfold blk vals
  rw [hv, block_entry]

/-- The reference's attention, with the exponentials and the maximum of the row written out. -/
theorem refO_entry (i : Fin 256) (h : Fin 8) (d : Fin 128) :
    refO x wq k v (ix4 0 i h d)
      = Ideal.div (∑ j, Ideal.exp (scores x wq k h i j - peak (scores x wq k h i)) * vals v h d j)
          (∑ j, Ideal.exp (scores x wq k h i j - peak (scores x wq k h i))) := by
  have hM : refM x wq k (ix3 0 h i) = peak (scores x wq k h i) := by
    rw [refM_apply, ofBits_neg_inf]
    rfl
  rw [refO_apply, refL_apply]
  have hS : ∀ j, refS x wq k (ix4 0 h i j) = scores x wq k h i j := fun _ => rfl
  have hV : ∀ j, refKV v (ix4 0 j h d) = vals v h d j := fun j => refKV_apply v j h d
  simp only [refP_apply, hM, hS, hV, mul_comm (vals v h d _)]

include hx hq hk hv in
/-- The four packets combined are the reference's attention. -/
theorem att_eq (i : Fin 256) (h : Fin 8) (d : Fin 128) :
    att m ρ (grp h) (row ⟨h.val % 4, Nat.mod_lt _ (by decide)⟩ i) d = refO x wq k v (ix4 0 i h d) := by
  have hh : hd (grp h) ⟨h.val % 4, Nat.mod_lt _ (by decide)⟩ = h := Fin.ext (by simp only [hd, grp]; omega)
  have hM : (fun s : Fin 4 => pktM m ρ s (grp h) (ix2 (row ⟨h.val % 4, Nat.mod_lt _ (by decide)⟩ i) 0))
      = fun s => peak (blk (N := 16384) (T := 4096) rfl (scores x wq k h i) s) := by
    funext s
    rw [pktM_apply, hh, score_blk m x wq k hx hq hk]
  have hL : (fun s : Fin 4 => pktL m ρ s (grp h) (ix2 (row ⟨h.val % 4, Nat.mod_lt _ (by decide)⟩ i) 0))
      = fun s => ∑ j, Ideal.exp (blk (N := 16384) (T := 4096) rfl (scores x wq k h i) s j - peak (blk (N := 16384) (T := 4096) rfl (scores x wq k h i) s)) := by
    funext s
    rw [pktL_apply, hh, score_blk m x wq k hx hq hk]
  have hO : (fun s : Fin 4 => pktO m ρ s (grp h) (ix2 (row ⟨h.val % 4, Nat.mod_lt _ (by decide)⟩ i) d))
      = fun s => ∑ j, Ideal.exp (blk (N := 16384) (T := 4096) rfl (scores x wq k h i) s j - peak (blk (N := 16384) (T := 4096) rfl (scores x wq k h i) s))
          * blk (N := 16384) (T := 4096) rfl (vals v h d) s j := by
    funext s
    rw [pktO_apply, hh, score_blk m x wq k hx hq hk]
    exact Finset.sum_congr rfl fun j _ => congrArg _ (congrFun (vals_blk m v hv s h d) j)
  unfold att
  rw [hM, hL, hO, weigh_sum, weigh_sum_one, refO_entry]

include hx hq hk hv ho in
/-- An entry of a device's result is the reference's. -/
theorem out_entry (c : Fin 4) (i : Fin 256) (e : Fin 1024) : outAt m ρ c (ix3 0 i e) = refOut x wq k v wo (ix3 0 i e) := by
  have key : (∑ h : Fin 8, ∑ d : Fin 128, att m ρ (grp h) (row ⟨h.val % 4, Nat.mod_lt _ (by decide)⟩ i) d * argWo m c (ix2 (col h d) e) : EReal)
      = ∑ f : Fin 1024, refO x wq k v (ix4 0 i ⟨f.val / 128, by omega⟩ ⟨f.val % 128, Nat.mod_lt _ (by decide)⟩) * wo (ix2 f e) := by
    rw [Fin.sum_univ_tiles 8 128 rfl]
    refine Finset.sum_congr rfl fun h _ => Finset.sum_congr rfl fun d _ => ?_
    rw [att_eq m ρ x wq k v hx hq hk hv, ho]
    have e1 : ∀ p, (⟨(h.val * 128 + d.val) / 128, p⟩ : Fin 8) = h := fun p => Fin.ext (by show (h.val * 128 + d.val) / 128 = h.val; omega)
    have e2 : ∀ p, (⟨(h.val * 128 + d.val) % 128, p⟩ : Fin 128) = d := fun p => Fin.ext (by show (h.val * 128 + d.val) % 128 = d.val; omega)
    rw [e1, e2]
    rfl
  exact (outAt_apply m ρ c i e).trans (key.trans (refOut_apply x wq k v wo i e).symm)

include hx hq hk hv ho in
/-- Every device's result is the reference's. -/
theorem out_eq (c : Fin 4) : outAt m ρ c = refOut x wq k v wo := by
  have h : ∀ y : Cert.ReferenceIdeal.S1x256x1024.Idx, outAt m ρ c y = refOut x wq k v wo y := by
    intro y
    obtain ⟨z, i, e, rfl⟩ : ∃ (z : Fin 1) (i : Fin 256) (e : Fin 1024), y = ix3 z i e := ⟨_, _, _, eq_ix3 y⟩
    obtain rfl : z = 0 := Subsingleton.elim _ _
    exact out_entry m ρ x wq k v wo hx hq hk hv ho c i e
  exact funext h

end Entries

/-- From arguments that agree, both programs end, with the reference's result in the reference's buffer and on every
    device of the kernel, and with the arguments unchanged. -/
theorem agree : Cert.algebraic_KernelIdeal_ReferenceIdeal (hKernelIdeal := Cert.KernelIdeal.Gen.facts) (hReferenceIdeal := Cert.ReferenceIdeal.Gen.facts) := by
  intro m g m' g' _ hargs
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  rotate_left
  · exact (θ_run _ _ _).mono (fun r h => h 0) (Cert.ReferenceIdeal.Value.run (F := Ideal) m' g')
  · refine (θ_run _ _ _).mono (fun r h c => ⟨?_, (h.1 c 0).trans (finalA_in m g c 0 rfl), (h.1 c 1).trans (finalA_in m g c 1 rfl),
      (h.1 c 3).trans (finalA_in m g c 3 rfl), (h.1 c 4).trans (finalA_in m g c 4 rfl), (h.1 c 2).trans (finalA_in m g c 2 rfl)⟩)
      (run_main (F := Ideal) m g)
    exact (h.1 c 5).trans ((finalA_out m g c).trans
      (out_eq m g _ _ _ _ _ (fun c => (hargs c).1) (fun c => (hargs c).2.1) (fun c => (hargs c).2.2.1) (fun c => (hargs c).2.2.2.1) (fun c => (hargs c).2.2.2.2) c))

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Agree
public import Idealize.ShloMosaic.Adequacy
public import Idealize.ShloMosaic.Init

@[expose] public section

noncomputable section

namespace Cert.Proof

open Idealize.ShloMosaic Idealize.SL.Sem

/-- The printed kernel runs, leaves its arguments as they were, and every counter ends at zero. -/
theorem frame_Kernel : Cert.quiescent_Kernel (hKernel := Cert.Kernel.Gen.facts) := fun m g _ =>
  (θ_run _ _ _).mono (fun r h => ⟨fun c =>
    ⟨(h.1 c 0).trans (Cert.Kernel.Exchange.finalA_in m g c 0 rfl), (h.1 c 1).trans (Cert.Kernel.Exchange.finalA_in m g c 1 rfl),
      (h.1 c 3).trans (Cert.Kernel.Exchange.finalA_in m g c 3 rfl), (h.1 c 4).trans (Cert.Kernel.Exchange.finalA_in m g c 4 rfl),
      (h.1 c 2).trans (Cert.Kernel.Exchange.finalA_in m g c 2 rfl)⟩, h.2⟩)
    (Cert.Kernel.Exchange.run_main (F := Bits) m g)

/-- The idealized kernel runs, leaves its arguments as they were, and every counter ends at zero. -/
theorem frame_KernelIdeal : Cert.quiescent_KernelIdeal (hKernelIdeal := Cert.KernelIdeal.Gen.facts) := fun m g _ =>
  (θ_run _ _ _).mono (fun r h => ⟨fun c =>
    ⟨(h.1 c 0).trans (Cert.KernelIdeal.Exchange.finalA_in m g c 0 rfl), (h.1 c 1).trans (Cert.KernelIdeal.Exchange.finalA_in m g c 1 rfl),
      (h.1 c 3).trans (Cert.KernelIdeal.Exchange.finalA_in m g c 3 rfl), (h.1 c 4).trans (Cert.KernelIdeal.Exchange.finalA_in m g c 4 rfl),
      (h.1 c 2).trans (Cert.KernelIdeal.Exchange.finalA_in m g c 2 rfl)⟩, h.2⟩)
    (Cert.KernelIdeal.Exchange.run_main (F := Ideal) m g)

/-- The reference runs, leaves its arguments as they were, and every counter ends at zero: it has none. -/
theorem frame_ReferenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The one constant that the idealized kernel names is one over the root of 128. -/
theorem names_Kernel : Cert.preserves_Kernel_KernelIdeal :=
  IdealRules.named_const.statement Cert.KernelIdeal.κ "inv_sqrt_dh" .f32 0x3DB504F3#32 (((Real.sqrt 128)⁻¹ : ℝ) : EReal) rfl

/-- From arguments that agree, both programs end with the same result, on every device of the kernel, and with their
    arguments as they were. -/
theorem agree : Cert.algebraic_KernelIdeal_ReferenceIdeal (hKernelIdeal := Cert.KernelIdeal.Gen.facts) (hReferenceIdeal := Cert.ReferenceIdeal.Gen.facts) :=
  Cert.Agree.agree

/-- All five claims, with the programs' stated facts. -/
theorem claim : Cert.Claim := ⟨Cert.Kernel.Gen.facts, Cert.KernelIdeal.Gen.facts, Cert.ReferenceIdeal.Gen.facts,
  frame_Kernel, frame_KernelIdeal, frame_ReferenceIdeal, names_Kernel, agree⟩

end Cert.Proof

end
